-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_Expert (m : (ℓ : Loc Cert.Expert.nD Cert.Expert.τ Cert.Expert.sig) → Buf (Elt Bits) ℓ) : Prop :=
  True

def Pre_ExpertIdeal (m : (ℓ : Loc Cert.ExpertIdeal.nD Cert.ExpertIdeal.τ Cert.ExpertIdeal.sig) → Buf (Elt Ideal) ℓ) : Prop :=
  True

def Pre_ExpertRefIdeal (m : (ℓ : Loc Cert.ExpertRefIdeal.nD Cert.ExpertRefIdeal.τ Cert.ExpertRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_Expert [hExpert : Cert.Expert.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3))
      ∧ r.2.sem = fun _ => 0)

def quiescent_ExpertIdeal [hExpertIdeal : Cert.ExpertIdeal.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2560]⟩ ⟨2, ![2048, 10240]⟩ (Layout.meshBlock [2, 2] ![[], [1, 0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2560, 1024]⟩ ⟨2, ![10240, 1024]⟩ (Layout.meshBlock [2, 2] ![[1, 0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![1024, 1024]⟩ ⟨2, ![2048, 1024]⟩ (Layout.meshBlock [2, 2] ![[1], []] c) (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.blockN ⟨2, ![1024, 8]⟩ ⟨2, ![1024, 16]⟩ (Layout.meshBlock [2, 2] ![[], [1]] c) (m' (((0 : Dev Cert.GatherRefIdeal.nD).tc : Thread Cert.GatherRefIdeal.nD Cert.GatherRefIdeal.τ).loc Cert.GatherRefIdeal.main_arg1))) →
    ∃ (v0 : Buf (Elt Ideal) (((0 : Dev Cert.GatherRefIdeal.nD).tc : Thread Cert.GatherRefIdeal.nD Cert.GatherRefIdeal.τ).loc Cert.GatherRefIdeal.main_v0)) (v1 : Buf (Elt Ideal) (((0 : Dev Cert.GatherRefIdeal.nD).tc : Thread Cert.GatherRefIdeal.nD Cert.GatherRefIdeal.τ).loc Cert.GatherRefIdeal.main_v1)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_v1) = v1
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1))

def preserves_Expert_ExpertIdeal : Prop :=
  True

def algebraic_ExpertIdeal_ExpertRefIdeal [hExpertIdeal : Cert.ExpertIdeal.Facts] [hExpertRefIdeal : Cert.ExpertRefIdeal.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m ((c.tc : Thread Cert.ExpertIdeal.nD Cert.ExpertIdeal.τ).loc Cert.ExpertIdeal.main_arg0) = m' (((0 : Dev Cert.ExpertRefIdeal.nD).tc : Thread Cert.ExpertRefIdeal.nD Cert.ExpertRefIdeal.τ).loc Cert.ExpertRefIdeal.main_arg0)
      ∧ m ((c.tc : Thread Cert.ExpertIdeal.nD Cert.ExpertIdeal.τ).loc Cert.ExpertIdeal.main_arg1) = Layout.blockN ⟨3, ![8, 320, 2048]⟩ ⟨3, ![16, 320, 2048]⟩ (Layout.meshBlock [2, 2] ![[1], [], []] c) (m' (((0 : Dev Cert.ExpertRefIdeal.nD).tc : Thread Cert.ExpertRefIdeal.nD Cert.ExpertRefIdeal.τ).loc Cert.ExpertRefIdeal.main_arg1))
      ∧ m ((c.tc : Thread Cert.ExpertIdeal.nD Cert.ExpertIdeal.τ).loc Cert.ExpertIdeal.main_arg2) = Layout.blockN ⟨3, ![8, 1024, 4096]⟩ ⟨3, ![16, 1024, 4096]⟩ (Layout.meshBlock [2, 2] ![[1], [], []] c) (m' (((0 : Dev Cert.ExpertRefIdeal.nD).tc : Thread Cert.ExpertRefIdeal.nD Cert.ExpertRefIdeal.τ).loc Cert.ExpertRefIdeal.main_arg2))
      ∧ m ((c.tc : Thread Cert.ExpertIdeal.nD Cert.ExpertIdeal.τ).loc Cert.ExpertIdeal.main_arg3) = Layout.blockN ⟨3, ![8, 4096, 1024]⟩ ⟨3, ![16, 4096, 1024]⟩ (Layout.meshBlock [2, 2] ![[1], [], []] c) (m' (((0 : Dev Cert.ExpertRefIdeal.nD).tc : Thread Cert.ExpertRefIdeal.nD Cert.ExpertRefIdeal.τ).loc Cert.ExpertRefIdeal.main_arg3))) →
    ∃ (v0 : Buf (Elt Ideal) (((0 : Dev Cert.ExpertRefIdeal.nD).tc : Thread Cert.ExpertRefIdeal.nD Cert.ExpertRefIdeal.τ).loc Cert.ExpertRefIdeal.main_v11)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v6) = Layout.blockN ⟨3, ![8, 320, 1024]⟩ ⟨3, ![32, 320, 1024]⟩ (Layout.meshBlock [2, 2] ![[1, 0], [], []] c) v0
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3))
      ∧ θ_run (Cert.ExpertRefIdeal.defs (F := Ideal)) (onTc (τ := Cert.ExpertRefIdeal.τ) (Cert.ExpertRefIdeal.main (F := Ideal))) ⟨m', fun _ => 0, g'⟩ (fun r =>
          r.2.mem (((0 : Dev Cert.ExpertRefIdeal.nD).tc : Thread Cert.ExpertRefIdeal.nD Cert.ExpertRefIdeal.τ).loc Cert.ExpertRefIdeal.main_v11) = v0
          ∧ r.2.mem (((0 : Dev Cert.ExpertRefIdeal.nD).tc : Thread Cert.ExpertRefIdeal.nD Cert.ExpertRefIdeal.τ).loc Cert.ExpertRefIdeal.main_arg0) = m' (((0 : Dev Cert.ExpertRefIdeal.nD).tc : Thread Cert.ExpertRefIdeal.nD Cert.ExpertRefIdeal.τ).loc Cert.ExpertRefIdeal.main_arg0)
          ∧ r.2.mem (((0 : Dev Cert.ExpertRefIdeal.nD).tc : Thread Cert.ExpertRefIdeal.nD Cert.ExpertRefIdeal.τ).loc Cert.ExpertRefIdeal.main_arg1) = m' (((0 : Dev Cert.ExpertRefIdeal.nD).tc : Thread Cert.ExpertRefIdeal.nD Cert.ExpertRefIdeal.τ).loc Cert.ExpertRefIdeal.main_arg1)
          ∧ r.2.mem (((0 : Dev Cert.ExpertRefIdeal.nD).tc : Thread Cert.ExpertRefIdeal.nD Cert.ExpertRefIdeal.τ).loc Cert.ExpertRefIdeal.main_arg2) = m' (((0 : Dev Cert.ExpertRefIdeal.nD).tc : Thread Cert.ExpertRefIdeal.nD Cert.ExpertRefIdeal.τ).loc Cert.ExpertRefIdeal.main_arg2)
          ∧ r.2.mem (((0 : Dev Cert.ExpertRefIdeal.nD).tc : Thread Cert.ExpertRefIdeal.nD Cert.ExpertRefIdeal.τ).loc Cert.ExpertRefIdeal.main_arg3) = m' (((0 : Dev Cert.ExpertRefIdeal.nD).tc : Thread Cert.ExpertRefIdeal.nD Cert.ExpertRefIdeal.τ).loc Cert.ExpertRefIdeal.main_arg3))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherRefIdeal : Cert.GatherRefIdeal.Facts) (hExpert : Cert.Expert.Facts) (hExpertIdeal : Cert.ExpertIdeal.Facts) (hExpertRefIdeal : Cert.ExpertRefIdeal.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_GatherIdeal (hGatherIdeal := hGatherIdeal)
    ∧ quiescent_GatherRefIdeal (hGatherRefIdeal := hGatherRefIdeal)
    ∧ quiescent_Expert (hExpert := hExpert)
    ∧ quiescent_ExpertIdeal (hExpertIdeal := hExpertIdeal)
    ∧ quiescent_ExpertRefIdeal (hExpertRefIdeal := hExpertRefIdeal)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatherRefIdeal (hGatherIdeal := hGatherIdeal) (hGatherRefIdeal := hGatherRefIdeal)
    ∧ preserves_Expert_ExpertIdeal
    ∧ algebraic_ExpertIdeal_ExpertRefIdeal (hExpertIdeal := hExpertIdeal) (hExpertRefIdeal := hExpertRefIdeal)
-- ==== Kernel.lean ====
abbrev S2048x2560 : Shape := ⟨2, ![2048, 2560]⟩
abbrev S2560x1024 : Shape := ⟨2, ![2560, 1024]⟩
abbrev S1024x1024 : Shape := ⟨2, ![1024, 1024]⟩
abbrev S4x256x1024 : Shape := ⟨3, ![4, 256, 1024]⟩
abbrev S4 : Shape := ⟨1, ![4]⟩
abbrev S_ : Shape := ⟨0, ![]⟩
abbrev S256x2560 : Shape := ⟨2, ![256, 2560]⟩
abbrev S256x1024 : Shape := ⟨2, ![256, 1024]⟩
abbrev S1x256x1024 : Shape := ⟨3, ![1, 256, 1024]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S2048x2560, .bf16⟩
  | .hbm, ⟨1, _⟩ => ⟨S2560x1024, .f32⟩
  | .hbm, ⟨2, _⟩ => ⟨S1024x1024, .f32⟩
  | .local _ .vmem, ⟨0, _⟩ => ⟨S2048x2560, .bf16⟩
  | .local _ .vmem, ⟨1, _⟩ => ⟨S2560x1024, .f32⟩
  | .local _ .vmem, ⟨2, _⟩ => ⟨S1024x1024, .f32⟩
  | .local _ .vmem, ⟨3, _⟩ => ⟨S4x256x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(2, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier2 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_5 : BitVec 32 := 2#32
  let v9 : BitVec 32 := Scalar.muli v5 c2_i32_5
  let v10 : BitVec 32 := Scalar.addi c0_i32 v9
  let c1_i32_2 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v6 : BitVec 32 := Scalar.subi c1_i32_2 v2
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v7 : BitVec 32 := Scalar.subi c1_i32_3 v5
  let c2_i32_8 : BitVec 32 := 2#32
  let v13 : BitVec 32 := Scalar.muli v7 c2_i32_8
  let v14 : BitVec 32 := Scalar.addi c0_i32_9 v13
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_10 : BitVec 32 := 1#32
  let v15 : BitVec 32 := Scalar.muli v2 c1_i32_10
  let v16 : BitVec 32 := Scalar.addi v14 v15
  v16.toNat
def k0_off1 (d0 : Dev nD) (c0_i32_15 : BitVec 32) : Fin 2 → Nat :=
  let c1_i32_13 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v20 : BitVec 32 := Scalar.subi c1_i32_13 v2
  let c1024_i32 : BitVec 32 := 1024#32
  let v21 : BitVec 32 := Scalar.muli v20 c1024_i32
  let v23 : BitVec 32 := Scalar.addi v21 c0_i32_15
  let v24 : Index := Scalar.indexCast v23
  let c0_16 : Index := 0#32
  ![v24.toNat, 0]
def k0_dev3 (d0 : Dev nD) : Nat :=
  let c0_i32_25 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v32 : BitVec 32 := Scalar.muli v5 c2_i32_24
  let v33 : BitVec 32 := Scalar.addi c0_i32_25 v32
  let c1_i32_2 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v6 : BitVec 32 := Scalar.subi c1_i32_2 v2
  let c1_i32_26 : BitVec 32 := 1#32
  let v34 : BitVec 32 := Scalar.muli v6 c1_i32_26
  let v35 : BitVec 32 := Scalar.addi v33 v34
  v35.toNat
def k0_dev4 (d0 : Dev nD) : Nat :=
  let c0_i32_40 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v53 : BitVec 32 := Scalar.muli v5 c2_i32_39
  let v54 : BitVec 32 := Scalar.addi c0_i32_40 v53
  let c1_i32_2 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v6 : BitVec 32 := Scalar.subi c1_i32_2 v2
  let c1_i32_41 : BitVec 32 := 1#32
  let v55 : BitVec 32 := Scalar.muli v6 c1_i32_41
  let v56 : BitVec 32 := Scalar.addi v54 v55
  v56.toNat
def k0_dev5 (d0 : Dev nD) : Nat :=
  let c0_i32_55 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v74 : BitVec 32 := Scalar.muli v5 c2_i32_54
  let v75 : BitVec 32 := Scalar.addi c0_i32_55 v74
  let c1_i32_2 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v6 : BitVec 32 := Scalar.subi c1_i32_2 v2
  let c1_i32_56 : BitVec 32 := 1#32
  let v76 : BitVec 32 := Scalar.muli v6 c1_i32_56
  let v77 : BitVec 32 := Scalar.addi v75 v76
  v77.toNat
def k0_dev6 (d0 : Dev nD) : Nat :=
  let c0_i32_69 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v95 : BitVec 32 := Scalar.muli v5 c2_i32_68
  let v96 : BitVec 32 := Scalar.addi c0_i32_69 v95
  let c1_i32_2 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v6 : BitVec 32 := Scalar.subi c1_i32_2 v2
  let c1_i32_70 : BitVec 32 := 1#32
  let v97 : BitVec 32 := Scalar.muli v6 c1_i32_70
  let v98 : BitVec 32 := Scalar.addi v96 v97
  v98.toNat
def k0_off2 (d0 : Dev nD) (c0_i32_75 : BitVec 32) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1024_i32_14 : BitVec 32 := 1024#32
  let v22 : BitVec 32 := Scalar.muli v2 c1024_i32_14
  let v107 : BitVec 32 := Scalar.addi v22 c0_i32_75
  let v108 : Index := Scalar.indexCast v107
  let c0_76 : Index := 0#32
  ![v108.toNat, 0]
def k0_dev7 (d0 : Dev nD) : Nat :=
  let c0_i32_102 : BitVec 32 := 0#32
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v7 : BitVec 32 := Scalar.subi c1_i32_3 v5
  let c2_i32_101 : BitVec 32 := 2#32
  let v131 : BitVec 32 := Scalar.muli v7 c2_i32_101
  let v132 : BitVec 32 := Scalar.addi c0_i32_102 v131
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_103 : BitVec 32 := 1#32
  let v133 : BitVec 32 := Scalar.muli v2 c1_i32_103
  let v134 : BitVec 32 := Scalar.addi v132 v133
  v134.toNat
def k0_dev8 (d0 : Dev nD) : Nat :=
  let c0_i32_134 : BitVec 32 := 0#32
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v7 : BitVec 32 := Scalar.subi c1_i32_3 v5
  let c2_i32_133 : BitVec 32 := 2#32
  let v167 : BitVec 32 := Scalar.muli v7 c2_i32_133
  let v168 : BitVec 32 := Scalar.addi c0_i32_134 v167
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_135 : BitVec 32 := 1#32
  let v169 : BitVec 32 := Scalar.muli v2 c1_i32_135
  let v170 : BitVec 32 := Scalar.addi v168 v169
  v170.toNat
def k0_dev9 (d0 : Dev nD) : Nat :=
  let c0_i32_166 : BitVec 32 := 0#32
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v7 : BitVec 32 := Scalar.subi c1_i32_3 v5
  let c2_i32_165 : BitVec 32 := 2#32
  let v203 : BitVec 32 := Scalar.muli v7 c2_i32_165
  let v204 : BitVec 32 := Scalar.addi c0_i32_166 v203
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_167 : BitVec 32 := 1#32
  let v205 : BitVec 32 := Scalar.muli v2 c1_i32_167
  let v206 : BitVec 32 := Scalar.addi v204 v205
  v206.toNat
def k0_dev10 (d0 : Dev nD) : Nat :=
  let c0_i32_198 : BitVec 32 := 0#32
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v7 : BitVec 32 := Scalar.subi c1_i32_3 v5
  let c2_i32_197 : BitVec 32 := 2#32
  let v239 : BitVec 32 := Scalar.muli v7 c2_i32_197
  let v240 : BitVec 32 := Scalar.addi c0_i32_198 v239
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_199 : BitVec 32 := 1#32
  let v241 : BitVec 32 := Scalar.muli v2 c1_i32_199
  let v242 : BitVec 32 := Scalar.addi v240 v241
  v242.toNat
abbrev stage0_0 : Fin 1 → Memref sig .tc .vmem S2048x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x10240 : Shape := ⟨2, ![2048, 10240]⟩
abbrev S10240x1024 : Shape := ⟨2, ![10240, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S10240x1024, .f32⟩
  | .hbm, ⟨2, _⟩ => ⟨S2048x10240, .f32⟩
  | .hbm, ⟨3, _⟩ => ⟨S2048x1024, .f32⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Gather.lean ====
abbrev S1024x1024 : Shape := ⟨2, ![1024, 1024]⟩
abbrev S1024x8 : Shape := ⟨2, ![1024, 8]⟩
abbrev S2048x1024 : Shape := ⟨2, ![2048, 1024]⟩
abbrev S2048x16 : Shape := ⟨2, ![2048, 16]⟩
abbrev S2x1024x8 : Shape := ⟨3, ![2, 1024, 8]⟩
abbrev S3 : Shape := ⟨1, ![3]⟩
abbrev S_ : Shape := ⟨0, ![]⟩
abbrev S1x1024x8 : Shape := ⟨3, ![1, 1024, 8]⟩
abbrev S1 : Shape := ⟨1, ![1]⟩
abbrev S1024x16 : Shape := ⟨2, ![1024, 16]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S2048x1024, .bf16⟩
  | .hbm, ⟨3, _⟩ => ⟨S2048x16, .f32⟩
  | .local _ .vmem, ⟨0, _⟩ => ⟨S1024x1024, .f32⟩
  | .local _ .vmem, ⟨1, _⟩ => ⟨S1024x8, .f32⟩
  | .local _ .vmem, ⟨2, _⟩ => ⟨S2048x1024, .bf16⟩
  | .local _ .vmem, ⟨3, _⟩ => ⟨S2048x16, .f32⟩
  | .local _ .vmem, ⟨4, _⟩ => ⟨S2x1024x8, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v4 : BitVec 32 := Dev.word d0
  let c2_i32_1 : BitVec 32 := 2#32
  let v5 : BitVec 32 := Scalar.divsi v4 c2_i32_1
  let c2_i32_0 : BitVec 32 := 2#32
  let v6 : BitVec 32 := Scalar.remsi v5 c2_i32_0
  let c2_i32_6 : BitVec 32 := 2#32
  let v11 : BitVec 32 := Scalar.muli v6 c2_i32_6
  let v12 : BitVec 32 := Scalar.addi c0_i32 v11
  let c1_i32_4 : BitVec 32 := 1#32
  let v7 : BitVec 32 := Dev.word d0
  let c1_i32_3 : BitVec 32 := 1#32
  let v8 : BitVec 32 := Scalar.divsi v7 c1_i32_3
  let c2_i32_2 : BitVec 32 := 2#32
  let v9 : BitVec 32 := Scalar.remsi v8 c2_i32_2
  let v10 : BitVec 32 := Scalar.subi c1_i32_4 v9
  let c1_i32_7 : BitVec 32 := 1#32
  let v13 : BitVec 32 := Scalar.muli v10 c1_i32_7
  let v14 : BitVec 32 := Scalar.addi v12 v13
  v14.toNat
def k0_off1 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1024_i32 : BitVec 32 := 1024#32
  let v15 : BitVec 32 := Scalar.muli v2 c1024_i32
  let v19 : Index := Scalar.indexCast v15
  let c0_10 : Index := 0#32
  ![v19.toNat, 0]
def k0_off2 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v23 : Index := Scalar.indexCast v2
  let c0_13 : Index := 0#32
  let c0_14 : Index := 0#32
  ![v23.toNat, 0, 0]
def k0_off3 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_30 : BitVec 32 := 0#32
  let c0_i32_31 : BitVec 32 := 0#32
  ![v2.toNat, 0, 0]
def k0_dev2 (d0 : Dev nD) : Nat :=
  let c0_i32_28 : BitVec 32 := 0#32
  let v34 : BitVec 32 := Dev.word d0
  let c2_i32_21 : BitVec 32 := 2#32
  let v35 : BitVec 32 := Scalar.divsi v34 c2_i32_21
  let c2_i32_20 : BitVec 32 := 2#32
  let v36 : BitVec 32 := Scalar.remsi v35 c2_i32_20
  let c2_i32_27 : BitVec 32 := 2#32
  let v41 : BitVec 32 := Scalar.muli v36 c2_i32_27
  let v42 : BitVec 32 := Scalar.addi c0_i32_28 v41
  let c1_i32_24 : BitVec 32 := 1#32
  let v37 : BitVec 32 := Dev.word d0
  let c1_i32_23 : BitVec 32 := 1#32
  let v38 : BitVec 32 := Scalar.divsi v37 c1_i32_23
  let c2_i32_22 : BitVec 32 := 2#32
  let v39 : BitVec 32 := Scalar.remsi v38 c2_i32_22
  let v40 : BitVec 32 := Scalar.subi c1_i32_24 v39
  let c1_i32_29 : BitVec 32 := 1#32
  let v43 : BitVec 32 := Scalar.muli v40 c1_i32_29
  let v44 : BitVec 32 := Scalar.addi v42 v43
  v44.toNat
def k0_off4 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1024_i32 : BitVec 32 := 1024#32
  let v15 : BitVec 32 := Scalar.muli v2 c1024_i32
  let c0_i32_39 : BitVec 32 := 0#32
  ![v15.toNat, 0]
def k0_dev3 (d0 : Dev nD) : Nat :=
  let c0_i32_37 : BitVec 32 := 0#32
  let v27 : BitVec 32 := Dev.word d0
  let c2_i32_16 : BitVec 32 := 2#32
  let v28 : BitVec 32 := Scalar.divsi v27 c2_i32_16
  let c2_i32_15 : BitVec 32 := 2#32
  let v29 : BitVec 32 := Scalar.remsi v28 c2_i32_15
  let c2_i32_36 : BitVec 32 := 2#32
  let v53 : BitVec 32 := Scalar.muli v29 c2_i32_36
  let v54 : BitVec 32 := Scalar.addi c0_i32_37 v53
  let c1_i32_19 : BitVec 32 := 1#32
  let v30 : BitVec 32 := Dev.word d0
  let c1_i32_18 : BitVec 32 := 1#32
  let v31 : BitVec 32 := Scalar.divsi v30 c1_i32_18
  let c2_i32_17 : BitVec 32 := 2#32
  let v32 : BitVec 32 := Scalar.remsi v31 c2_i32_17
  let v33 : BitVec 32 := Scalar.subi c1_i32_19 v32
  let c1_i32_38 : BitVec 32 := 1#32
  let v55 : BitVec 32 := Scalar.muli v33 c1_i32_38
  let v56 : BitVec 32 := Scalar.addi v54 v55
  v56.toNat
def k0_off5 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1024_i32 : BitVec 32 := 1024#32
  let v15 : BitVec 32 := Scalar.muli v2 c1024_i32
  let v87 : Index := Scalar.indexCast v15
  let c0_64 : Index := 0#32
  ![v87.toNat, 0]
def k0_off6 (d0 : Dev nD) : Fin 2 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1024_i32 : BitVec 32 := 1024#32
  let v15 : BitVec 32 := Scalar.muli v2 c1024_i32
  let c0_i32_75 : BitVec 32 := 0#32
  ![v15.toNat, 0]
def k0_dev4 (d0 : Dev nD) : Nat :=
  let c0_i32_73 : BitVec 32 := 0#32
  let v89 : BitVec 32 := Dev.word d0
  let c2_i32_66 : BitVec 32 := 2#32
  let v90 : BitVec 32 := Scalar.divsi v89 c2_i32_66
  let c2_i32_65 : BitVec 32 := 2#32
  let v91 : BitVec 32 := Scalar.remsi v90 c2_i32_65
  let c2_i32_72 : BitVec 32 := 2#32
  let v96 : BitVec 32 := Scalar.muli v91 c2_i32_72
  let v97 : BitVec 32 := Scalar.addi c0_i32_73 v96
  let c1_i32_69 : BitVec 32 := 1#32
  let v92 : BitVec 32 := Dev.word d0
  let c1_i32_68 : BitVec 32 := 1#32
  let v93 : BitVec 32 := Scalar.divsi v92 c1_i32_68
  let c2_i32_67 : BitVec 32 := 2#32
  let v94 : BitVec 32 := Scalar.remsi v93 c2_i32_67
  let v95 : BitVec 32 := Scalar.subi c1_i32_69 v94
  let c1_i32_74 : BitVec 32 := 1#32
  let v98 : BitVec 32 := Scalar.muli v95 c1_i32_74
  let v99 : BitVec 32 := Scalar.addi v97 v98
  v99.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== GatherRefIdeal.lean ====
abbrev S2048x1024 : Shape := ⟨2, ![2048, 1024]⟩
abbrev S1024x16 : Shape := ⟨2, ![1024, 16]⟩
abbrev S2048x16 : Shape := ⟨2, ![2048, 16]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x16, .f32⟩
  | .hbm, ⟨2, _⟩ => ⟨S2048x1024, .bf16⟩
  | .hbm, ⟨3, _⟩ => ⟨S2048x16, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Expert.lean ====
abbrev S2048x1024 : Shape := ⟨2, ![2048, 1024]⟩
abbrev S8x320x2048 : Shape := ⟨3, ![8, 320, 2048]⟩
abbrev S8x1024x4096 : Shape := ⟨3, ![8, 1024, 4096]⟩
abbrev S8x4096x1024 : Shape := ⟨3, ![8, 4096, 1024]⟩
abbrev S_ : Shape := ⟨0, ![]⟩
abbrev S1 : Shape := ⟨1, ![1]⟩
abbrev S8x320x1024 : Shape := ⟨3, ![8, 320, 1024]⟩
abbrev S1x320x2048 : Shape := ⟨3, ![1, 320, 2048]⟩
abbrev S1x1024x1024 : Shape := ⟨3, ![1, 1024, 1024]⟩
abbrev S1x320x1024 : Shape := ⟨3, ![1, 320, 1024]⟩
abbrev S320x1024 : Shape := ⟨2, ![320, 1024]⟩
abbrev S320x2048 : Shape := ⟨2, ![320, 2048]⟩
abbrev S1024x1024 : Shape := ⟨2, ![1024, 1024]⟩

abbrev nBuf : Space → Nat
  | .hbm => 11
  | .vmem => 10
  | .smem => 1
  | _ => 0

abbrev bufTy : (tb : Table) → Fin (tcTables nBuf tb) → BufTy
  | .hbm, ⟨0, _⟩ => ⟨S2048x1024, .bf16⟩
  | .hbm, ⟨1, _⟩ => ⟨S8x320x2048, .bf16⟩
  | .hbm, ⟨2, _⟩ => ⟨S8x1024x4096, .f32⟩
  | .hbm, ⟨3, _⟩ => ⟨S8x4096x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S8x320x1024, .f32⟩
  | .local _ .vmem, ⟨0, _⟩ => ⟨S2048x1024, .bf16⟩
  | .local _ .vmem, ⟨1, _⟩ => ⟨S1x320x2048, .bf16⟩
  | .local _ .vmem, ⟨2, _⟩ => ⟨S1x320x2048, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x320x1024, .f32⟩
  | .local _ .vmem, ⟨8, _⟩ => ⟨S1x320x1024, .f32⟩
  | .local _ .vmem, ⟨9, _⟩ => ⟨S320x1024, .bf16⟩
  | .local _ .smem, ⟨0, _⟩ => ⟨S1, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v6 : Ref sig .tc := ⟨.hbm, 10, rfl⟩
abbrev main_v5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 4
abbrev τ : Topo := Topo.v7x

variable {F : FTy → Type} [FloatOps F]

abbrev grid0 : Pipeline.Grid := ⟨2, ![8, 2], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi arg1 v1
  let c0_i32 : BitVec 32 := 0#32
  let c0_i32_0 : BitVec 32 := 0#32
  ![arg0.toNat, c0_i32.toNat, v2.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi arg1 v1
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x320x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertRefIdeal.lean ====
abbrev S2048x1024 : Shape := ⟨2, ![2048, 1024]⟩
abbrev S16x320x2048 : Shape := ⟨3, ![16, 320, 2048]⟩
abbrev S16x1024x4096 : Shape := ⟨3, ![16, 1024, 4096]⟩
abbrev S16x4096x1024 : Shape := ⟨3, ![16, 4096, 1024]⟩
abbrev S16x320x1024 : Shape := ⟨3, ![16, 320, 1024]⟩
abbrev S2x8x1024x2x2048 : Shape := ⟨5, ![2, 8, 1024, 2, 2048]⟩
abbrev S2x8x2x2048x1024 : Shape := ⟨5, ![2, 8, 2, 2048, 1024]⟩
abbrev S2x8x320x1024 : Shape := ⟨4, ![2, 8, 320, 1024]⟩
abbrev S2x8x2x2048x320 : Shape := ⟨5, ![2, 8, 2, 2048, 320]⟩
abbrev S2x2x8x320x2048 : Shape := ⟨5, ![2, 2, 8, 320, 2048]⟩
abbrev S_ : Shape := ⟨0, ![]⟩
abbrev S2x2x8x320x1024 : Shape := ⟨5, ![2, 2, 8, 320, 1024]⟩
abbrev S32x320x1024 : Shape := ⟨3, ![32, 320, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S16x320x2048, .bf16⟩
  | .hbm, ⟨2, _⟩ => ⟨S16x1024x4096, .f32⟩
  | .hbm, ⟨3, _⟩ => ⟨S16x4096x1024, .f32⟩
  | .hbm, ⟨4, _⟩ => ⟨S16x320x2048, .f32⟩
  | .hbm, ⟨5, _⟩ => ⟨S2048x1024, .f32⟩
  | .hbm, ⟨6, _⟩ => ⟨S16x320x1024, .f32⟩
  | .hbm, ⟨7, _⟩ => ⟨S2x8x1024x2x2048, .f32⟩
  | .hbm, ⟨8, _⟩ => ⟨S2x8x2x2048x1024, .f32⟩
  | .hbm, ⟨9, _⟩ => ⟨S2x8x320x1024, .f32⟩
  | .hbm, ⟨10, _⟩ => ⟨S2x8x2x2048x320, .f32⟩
  | .hbm, ⟨11, _⟩ => ⟨S2x2x8x320x2048, .f32⟩
  | .hbm, ⟨12, _⟩ => ⟨S_, .f32⟩
  | .hbm, ⟨13, _⟩ => ⟨S2x2x8x320x2048, .f32⟩
  | .hbm, ⟨14, _⟩ => ⟨S2x2x8x320x2048, .f32⟩
  | .hbm, ⟨15, _⟩ => ⟨S2x2x8x320x1024, .f32⟩
  | .hbm, ⟨16, _⟩ => ⟨S32x320x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Owing.lean ====
/-
What a device owes, as a list.

A device of an exchanging kernel owes some cells credit, in the order in which its signals and copies pay them. `owe l`
is the sum of the list `l` of (cell, amount); paying the head leaves the tail.
-/
module

public import Idealize.ShloMosaic.Lib.Pipeline.Launch
public import Idealize.ShloMosaic.Lib.Pipeline.Kit
public import Idealize.ShloMosaic.Lib.Tactic

@[expose] public section

noncomputable section

namespace Cert.Owing

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {U : Type} [URA U]

local notation "𝕄" => MT nD τ sig Unit Val ℕ U ℕ

/-- The sum of the listed debts. -/
def owe : List (GSem nD τ sig × ℕ) → CellTallies nD τ sig Unit
  | [] => 0
  | p :: l => owe l + tallyAt p.1 () p.2

theorem owe_nil : (owe [] : CellTallies nD τ sig Unit) = 0 := rfl
theorem owe_cons (g : GSem nD τ sig) (n : ℕ) (l : List (GSem nD τ sig × ℕ)) : owe ((g, n) :: l) = owe l + tallyAt g () n := rfl

/-- Only a listed cell is owed anything. -/
theorem owe_pos {l : List (GSem nD τ sig × ℕ)} {g : GSem nD τ sig} {u : Unit} (h : 0 < owe l g u) : ∃ p ∈ l, g = p.1 := by
  induction l with
  | nil => exact absurd h (Nat.lt_irrefl 0)
  | cons p l ih =>
    by_cases hg : g = p.1
    · exact ⟨p, List.mem_cons_self, hg⟩
    · obtain ⟨p', hp', e⟩ := ih (by
        have h' : 0 < (owe l + tallyAt p.1 () p.2) g u := h
        rw [Pi.add_apply, Finsupp.add_apply, tallyAt_apply, if_neg (fun h' => hg h'.1), Nat.add_zero] at h'
        exact h')
      exact ⟨p', List.mem_cons_of_mem _ hp', e⟩

/-- What a cell is owed: the amounts listed for it. -/
theorem owe_apply (l : List (GSem nD τ sig × ℕ)) (g : GSem nD τ sig) : owe l g () = (l.map fun p => if g = p.1 then p.2 else 0).sum := by
  induction l with
  | nil => rfl
  | cons p l ih =>
    show (owe l + tallyAt p.1 () p.2) g () = _
    rw [Pi.add_apply, Finsupp.add_apply, tallyAt_apply, ih, List.map_cons, List.sum_cons, Nat.add_comm]
    simp only [and_true]

/-- A wait on a cell of level below every cell owed is allowed. -/
theorem mayWait_owe {L : GSem nD τ sig → Finset Unit} {lv : GSem nD τ sig → Unit → ℕ} (t : Thread nD τ) (sm : SemLoc sig)
    (l : List (GSem nD τ sig × ℕ)) (hL : ∀ g : GSem nD τ sig, g.1.2 = .tc → L g = {()}) (ht : t.2 = .tc)
    (hl : ∀ p ∈ l, p.1.1.2 = .tc ∧ lv (t, sm) () < lv p.1 ()) :
    (levAts L lv : sProp 𝕄) ⊢ MayWait t sm () (owe l) :=
  MayOwe.of_cut (L := L) (lev := lv) (lv (t, sm) ())
    (fun p hp => by rw [Finset.mem_singleton.mp hp, hL _ ht]; exact Finset.mem_singleton_self _)
    (fun g u hg => by obtain ⟨p, hp, rfl⟩ := owe_pos hg; rw [hL _ (hl p hp).1]; exact Finset.mem_singleton_self _)
    (fun p hp => by rw [Finset.mem_singleton.mp hp])
    (fun g u hg => by obtain ⟨p, hp, rfl⟩ := owe_pos hg; exact (hl p hp).2)

/-- A persistent resource is handed to every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Cert.Owing

end
-- ==== Proof.KernelIdealProto.lean ====
/-
The combining call of v07: its two exchanges stated once.

Device `c` of the 2 x 2 mesh has two peers, along y (leg `false`) and along x (leg `true`). On each leg it sends its four
chunks of 256 rows from its send buffer to the peer's landing buffer, one transfer a chunk, each with a completion of its own
at both ends. The cells of a device are therefore its barrier and, for each leg, direction (`false` sent, `true` received) and
chunk, one transfer completion. Everything here is stated at a symbolic device, leg, direction and chunk.
-/
module

public import proofs.«01_k».proof.Proof.Owing
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Writes
public import Idealize.ShloMosaic.Lib.Tactic

@[expose] public section

noncomputable section

namespace Cert.KernelIdeal.Combine

open Cert.KernelIdeal Cert.KernelIdeal.Gen Cert.Owing

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The mesh -/

set_option backward.proofsInPublic true in
/-- The peer on a leg: the other device of the same x (leg `false`), of the same y (leg `true`). -/
def peer (l : Bool) (c : Dev nD) : Dev nD :=
  ⟨if l then (c.val + 2) % 4 else c.val + 1 - 2 * (c.val % 2), by have h : c.val < 4 := c.isLt; show _ < 4; split <;> omega⟩
theorem peer_peer (l : Bool) (c : Dev nD) : peer l (peer l c) = c := by revert l c; decide
def swap (l : Bool) : Dev nD ≃ Dev nD := ⟨peer l, peer l, peer_peer l, peer_peer l⟩

theorem dev1_eq (c : Dev nD) : (⟨k0_dev1 c, k0_dev1_lt c⟩ : Dev nD) = peer false c := Fin.ext ((k0_dev1_eq c).trans (by revert c; decide))
theorem dev2_eq (c : Dev nD) : (⟨k0_dev2 c, k0_dev2_lt c⟩ : Dev nD) = peer true c := Fin.ext ((k0_dev2_eq c).trans (by revert c; decide))
theorem dev3_eq (c : Dev nD) : (⟨k0_dev3 c, k0_dev3_lt c⟩ : Dev nD) = peer false c := dev1_eq c
theorem dev4_eq (c : Dev nD) : (⟨k0_dev4 c, k0_dev4_lt c⟩ : Dev nD) = peer false c := dev1_eq c
theorem dev5_eq (c : Dev nD) : (⟨k0_dev5 c, k0_dev5_lt c⟩ : Dev nD) = peer false c := dev1_eq c
theorem dev6_eq (c : Dev nD) : (⟨k0_dev6 c, k0_dev6_lt c⟩ : Dev nD) = peer false c := dev1_eq c
theorem dev7_eq (c : Dev nD) : (⟨k0_dev7 c, k0_dev7_lt c⟩ : Dev nD) = peer true c := dev2_eq c
theorem dev8_eq (c : Dev nD) : (⟨k0_dev8 c, k0_dev8_lt c⟩ : Dev nD) = peer true c := dev2_eq c
theorem dev9_eq (c : Dev nD) : (⟨k0_dev9 c, k0_dev9_lt c⟩ : Dev nD) = peer true c := dev2_eq c
theorem dev10_eq (c : Dev nD) : (⟨k0_dev10 c, k0_dev10_lt c⟩ : Dev nD) = peer true c := dev2_eq c

/-! ## The buffers and the semaphores -/

/-- The buffer of a leg and a direction: the send buffer, the landing buffer. -/
abbrev buf : Bool → Bool → Memref sig .tc .vmem S4x256x1024 .bf16
  | false, false => Memref.whole cc0_scratch0
  | false, true => Memref.whole cc0_scratch1
  | true, false => Memref.whole cc0_scratch2
  | true, true => Memref.whole cc0_scratch3

theorem rct_inb (i : Fin 4) : ∀ a, (![i.val, 0, 0] : Fin 3 → Nat) a + S1x256x1024.size a ≤ S4x256x1024.size a := by revert i; decide
/-- Chunk `i`'s place in a buffer. -/
abbrev rct (i : Fin 4) : Rect S4x256x1024 := Rect.unit (s := S4x256x1024) ![i.val, 0, 0] S1x256x1024.size (rct_inb i)
/-- Chunk `i` of a memref as the transfers address it. -/
abbrev chk (b : Memref sig .tc .vmem S4x256x1024 .bf16) (i : Fin 4) : Memref sig .tc .vmem S256x1024 .bf16 :=
  (b.slice (rct i) (fun _ => rfl)).squeeze S256x1024 squeezes_S1x256x1024_S256x1024

/-- A transfer completion: leg, direction, chunk. -/
abbrev Xf : Type := Bool × Bool × Fin 4

abbrev barS : Sem sig := barrier2
/-- The semaphore of a transfer completion. -/
abbrev dsem (k : Xf) : DmaSem sig :=
  ⟨3 + (if k.1 then 8 else 0) + (if k.2.1 then 4 else 0) + k.2.2.val, by
    have h : k.2.2.val < 4 := k.2.2.isLt
    show _ < 19
    split <;> split <;> omega⟩
/-- Which completion a semaphore is. -/
def kind (q : DmaSem sig) : Option Xf :=
  if 3 ≤ q.val then some (decide (11 ≤ q.val), decide (4 ≤ (q.val - 3) % 8), ⟨(q.val - 3) % 4, Nat.mod_lt _ (by decide)⟩) else none
theorem kind_dsem (k : Xf) : kind (dsem k) = some k := by
  obtain ⟨l, d, i⟩ := k; revert l d i; decide
theorem dsem_inj {k k' : Xf} (h : dsem k = dsem k') : k = k' := by
  have := congrArg kind h; rw [kind_dsem, kind_dsem] at this; exact Option.some.inj this

/-- A device's own cells: the barrier, the transfer completions. -/
abbrev csem : Option Xf → SemLoc sig
  | none => .reg barS
  | some k => .dma (dsem k)
abbrev kcell (ck : Dev nD × Option Xf) : GSem nD τ sig := ((ck.1 : Thread nD τ), csem ck.2)
abbrev bcell (c : Dev nD) : GSem nD τ sig := kcell (c, none)
abbrev xcell (c : Dev nD) (k : Xf) : GSem nD τ sig := kcell (c, some k)

abbrev N : ℕ := (chk (buf false true) 0).view.dmaCredit
theorem N_pos : 0 < N := View.dmaCredit_pos _ (by decide)
theorem credit_eq (l d : Bool) (i : Fin 4) : (chk (buf l d) i).view.dmaCredit = N := by cases l <;> cases d <;> rfl

/-! ## Chunks held -/

/-- Chunk `i` of a buffer held whole at contents `f` of the buffer. -/
def pts (l d : Bool) (i : Fin 4) (c : Dev nD) (f : Buf (Elt F) ((buf l d).view.loc (c : Thread nD τ))) : sProp 𝕄 :=
  (chk (buf l d) i).view.loc (c : Thread nD τ) ↦[(chk (buf l d) i).view.set]{fullShare} f
/-- Chunk `i` of a buffer held whole at some contents. -/
def own (l d : Bool) (i : Fin 4) (c : Dev nD) : sProp 𝕄 := iprop(∃ f, pts l d i c f)
/-- Chunk `i` of a buffer held whole, reading `w`. -/
def holds (l d : Bool) (i : Fin 4) (c : Dev nD) (w : Vec F S1x256x1024 .bf16) : sProp 𝕄 :=
  iprop(∃ f, ⌜(buf l d).view.readAt (Elt F) (rct i).toLoadRect f = w⌝ ∗ pts l d i c f)

omit [FloatOps F] in
instance pts_storable (l d : Bool) (i : Fin 4) (c : Dev nD) (f) : BI.Storable (upEmb : UEmb _ 𝕄) (pts (F := F) l d i c f) := by unfold pts; infer_instance
omit [FloatOps F] in
instance own_storable (l d : Bool) (i : Fin 4) (c : Dev nD) : BI.Storable (upEmb : UEmb _ 𝕄) (own (F := F) l d i c) := by unfold own; infer_instance
omit [FloatOps F] in
instance holds_storable (l d : Bool) (i : Fin 4) (c : Dev nD) (w) : BI.Storable (upEmb : UEmb _ 𝕄) (holds (F := F) l d i c w) := by unfold holds; infer_instance

omit [FloatOps F] in
theorem holds_own (l d : Bool) (i : Fin 4) (c : Dev nD) (w) : (holds (F := F) l d i c w) ⊢ own l d i c := by
  unfold holds own
  iintro ⟨%f, -, H⟩
  iexists f; iexact H

/-- The transfers' view of a chunk and the accesses' have the same elements. -/
theorem chk_set (b : Memref sig .tc .vmem S4x256x1024 .bf16) (i : Fin 4) : (b.access (rct i)).set = (chk b i).view.set :=
  (View.set_reshape (b.access (rct i)) _).symm

omit [FloatOps F] in
/-- A copied chunk reads at the target what it read at the source. -/
theorem copy_read (b b' : Memref sig .tc .vmem S4x256x1024 .bf16) (i : Fin 4) (f : b.view.ty.Contents (Elt F)) (f' : b'.view.ty.Contents (Elt F)) :
    b'.view.readAt (Elt F) (rct i).toLoadRect ((chk b' i).view.write (Elt F) f' ((chk b i).view.read (Elt F) f) Finset.univ)
      = b.view.readAt (Elt F) (rct i).toLoadRect f := by
  show (b'.access (rct i)).read (Elt F) (((b'.access (rct i)).reshape S256x1024 squeezes_S1x256x1024_S256x1024.numel_eq).write (Elt F) f' (((b.access (rct i)).reshape S256x1024 squeezes_S1x256x1024_S256x1024.numel_eq).read (Elt F) f) Finset.univ)
    = (b.access (rct i)).read (Elt F) f
  rw [View.write_reshape_univ, View.read_write_univ]
  funext x
  rw [View.read_apply, View.read_apply]
  simp only [View.emb_reshape, Function.Embedding.trans_apply, Equiv.coe_toEmbedding, Equiv.apply_symm_apply]

/-! ## Contents -/

/-- Device `c`'s block of the combining matrix, as staged. -/
def pst (c : Dev nD) : (cc0_stg0_0 : Ref sig .tc).ty.Contents (Elt F) :=
  (win0_0.blk (0 : Fin 1)).view.read (Elt F) ((s₀ m ρ).mem ((c : Thread nD τ).loc main_arg0))
/-- Device `c`'s block of the expert outputs, as staged. -/
def yst (c : Dev nD) : (cc0_stg1_0 : Ref sig .tc).ty.Contents (Elt F) :=
  (win0_1.blk (0 : Fin 1)).view.read (Elt F) ((s₀ m ρ).mem ((c : Thread nD τ).loc main_arg1))

abbrev pM : Memref sig .tc .vmem S2048x2560 .bf16 := Memref.whole cc0_stg0_0
abbrev yM : Memref sig .tc .vmem S2560x1024 .f32 := Memref.whole cc0_stg1_0
abbrev oM : Memref sig .tc .vmem S1024x1024 .f32 := Memref.whole cc0_stg2_0

abbrev yR : Rect S2560x1024 := Rect.unit (s := S2560x1024) ![0, 0] S2560x1024.size inb_S2560x1024_S2560x1024_0_0
/-- The rows of the half sent: chunk `i` of the peer's rows. -/
abbrev gR (c : Dev nD) (i : Fin 4) : Rect S2048x2560 := Rect.unit (s := S2048x2560) (k0_off1 c (BitVec.ofNat 32 (256 * i.val))) S256x2560.size (k0_off1_inb c i)
/-- The rows of the half kept: chunk `i` of the device's own rows. -/
abbrev hR (c : Dev nD) (i : Fin 4) : Rect S2048x2560 := Rect.unit (s := S2048x2560) (k0_off2 c (BitVec.ofNat 32 (256 * i.val))) S256x2560.size (k0_off2_inb c i)
theorem oR_inb (i : Fin 4) : ∀ a, (![256 * i.val, 0] : Fin 2 → Nat) a + S256x1024.size a ≤ S1024x1024.size a := by revert i; decide
abbrev oR (i : Fin 4) : Rect S1024x1024 := Rect.unit (s := S1024x1024) ![256 * i.val, 0] S256x1024.size (oR_inb i)

/-- The expert outputs rounded for the matrix unit. -/
def yb (c : Dev nD) : FVec F S2560x1024 .bf16 := k0_pay1 (yM.view.readAt (Elt F) yR.toLoadRect (yst m ρ c))
/-- The device's own product for the rows it keeps. -/
def mine (c : Dev nD) (i : Fin 4) : FVec F S256x1024 .f32 := k0_pay8 (yb m ρ c) (pM.view.readAt (Elt F) (hR c i).toLoadRect (pst m ρ c))
/-- What device `c` sends on the y leg: its product for the peer's rows. -/
def sentY (c : Dev nD) (i : Fin 4) : Vec F S1x256x1024 .bf16 := k0_pay4 (yb m ρ c) (pM.view.readAt (Elt F) (gR c i).toLoadRect (pst m ρ c))
/-- What it sends on the x leg: its own product and the y peer's, added. -/
def sentX (c : Dev nD) (i : Fin 4) : Vec F S1x256x1024 .bf16 := k0_pay10 (mine m ρ c i) (sentY m ρ (peer false c) i)
/-- What device `c` sends on a leg. -/
def sent (l : Bool) (c : Dev nD) (i : Fin 4) : Vec F S1x256x1024 .bf16 := if l then sentX m ρ c i else sentY m ρ c i
/-- The sum over the y pair, kept. -/
def half (c : Dev nD) (i : Fin 4) : FVec F S256x1024 .f32 := k0_pay9 (mine m ρ c i) (sentY m ρ (peer false c) i)
/-- The sum over all four devices: the result's chunk `i`. -/
def full (c : Dev nD) (i : Fin 4) : FVec F S256x1024 .f32 := k0_pay19 (half m ρ c i) (sentX m ρ (peer true c) i)

/-! ## The schedule -/

/-- What the signal of a leg hands the device waiting at its barrier: the four chunks of its peer's landing buffer. -/
def lend (l : Bool) (c : Dev nD) : sProp 𝕄 :=
  iprop(own l true 0 (peer l c) ∗ own l true 1 (peer l c) ∗ own l true 2 (peer l c) ∗ own l true 3 (peer l c))
omit [FloatOps F] in
instance lend_storable (l : Bool) (c : Dev nD) : BI.Storable (upEmb : UEmb _ 𝕄) (lend (F := F) l c) := by unfold lend; infer_instance

/-- What a completed transfer hands over: the send chunk back, the landed chunk at what the peer sent. -/
def land (c : Dev nD) (k : Xf) : sProp 𝕄 :=
  if k.2.1 then holds k.1 true k.2.2 c (sent m ρ k.1 (peer k.1 c) k.2.2) else own k.1 false k.2.2 c
instance land_storable (c : Dev nD) (k : Xf) : BI.Storable (upEmb : UEmb _ 𝕄) (land (F := F) m ρ c k) := by
  unfold land; split <;> infer_instance

def dutiesOf : SemLoc sig → Finset Bool
  | .reg s => if s = barS then Finset.univ else ∅
  | .dma q => if (kind q).isSome then {false} else ∅
def amountOf : SemLoc sig → ℕ
  | .reg _ => 1
  | .dma _ => N
def payOf (c : Dev nD) (d : Bool) : SemLoc sig → sProp 𝕄
  | .reg _ => lend d c
  | .dma q => match kind q with
    | some k => land m ρ c k
    | none => iprop(emp)

/-- One round: at each barrier a unit from either peer, at each completion the transfer's bytes. -/
def Rd : Rounds.Schedule (GSem nD τ sig) Bool 𝕄 where
  duties g r := if r = 0 ∧ g.1.2 = .tc then dutiesOf g.2 else ∅
  unitless _ := False
  amount g _ _ := amountOf g.2
  payload g _ d := payOf m ρ g.1.1 d g.2
  amount_pos g _ _ _ := by
    show 0 < amountOf g.2
    unfold amountOf; split
    · exact Nat.one_pos
    · exact N_pos

instance Rd_payload_storable (g : GSem nD τ sig) (r : ℕ) (d : Bool) : BI.Storable (upEmb : UEmb _ 𝕄) ((Rd (F := F) m ρ).payload g r d) := by
  show BI.Storable upEmb (payOf m ρ g.1.1 d g.2)
  unfold payOf; (repeat' split) <;> infer_instance

section Sched
variable (c : Dev nD) (k : Xf)

theorem duties_bar : (Rd (F := F) m ρ).duties (bcell c) 0 = Finset.univ := by
  dsimp only [Rd]; rw [if_pos ⟨rfl, rfl⟩]
  show (if barS = barS then (Finset.univ : Finset Bool) else ∅) = _
  exact if_pos rfl
theorem duties_xf : (Rd (F := F) m ρ).duties (xcell c k) 0 = {false} := by
  dsimp only [Rd]; rw [if_pos ⟨rfl, rfl⟩]; exact if_pos (by rw [kind_dsem]; rfl)
theorem duties_later (g : GSem nD τ sig) : ∀ r, 1 ≤ r → (Rd (F := F) m ρ).duties g r = ∅ :=
  fun r hr => if_neg fun h => by have := h.1; omega
theorem amount_bar (d : Bool) : (Rd (F := F) m ρ).amount (bcell c) 0 d = 1 := rfl
theorem amount_xf (d : Bool) : (Rd (F := F) m ρ).amount (xcell c k) 0 d = N := rfl
theorem expect_bar : (Rd (F := F) m ρ).expect (bcell c) 0 = 2 := by
  unfold Schedule.expect Schedule.amountOf
  rw [duties_bar, Finset.sum_congr rfl fun d _ => amount_bar m ρ c d, Finset.sum_const, Finset.card_univ, Fintype.card_bool, smul_eq_mul]
theorem expect_xf : (Rd (F := F) m ρ).expect (xcell c k) 0 = N := by
  unfold Schedule.expect Schedule.amountOf; rw [duties_xf, Finset.sum_singleton, amount_xf]
theorem payload_bar (d : Bool) : (Rd (F := F) m ρ).payload (bcell c) 0 d = lend d c := rfl
theorem payload_xf (d : Bool) : (Rd (F := F) m ρ).payload (xcell c k) 0 d = land m ρ c k := by
  show (match kind (dsem k) with | some k => land m ρ c k | none => iprop(emp)) = _
  rw [kind_dsem]
theorem rest_bar : bigSep ((Rd (F := F) m ρ).duties (bcell c) 0 \ ∅) (fun d => (Rd (F := F) m ρ).payload (bcell c) 0 d) = iprop(lend false c ∗ lend true c) := by
  rw [Finset.sdiff_empty, duties_bar, bigSep_univ_eq_bigSepL [false, true] (by decide) (by decide), bigSepL_cons_cons, bigSepL_singleton,
    payload_bar, payload_bar]
  rfl
theorem rest_xf : bigSep ((Rd (F := F) m ρ).duties (xcell c k) 0 \ ∅) (fun d => (Rd (F := F) m ρ).payload (xcell c k) 0 d) = land m ρ c k := by
  rw [Finset.sdiff_empty, duties_xf, bigSep_singleton, payload_xf]

end Sched

/-! ## What a device owes, and the levels of the waits -/

abbrev debtBar (c : Dev nD) (l : Bool) : GSem nD τ sig × ℕ := (bcell (peer l c), 1)
abbrev debtXf (c : Dev nD) (l : Bool) (i : Fin 4) : GSem nD τ sig × ℕ := (xcell (peer l c) (l, true, i), N)
/-- The transfers of a leg from chunk `i` on. -/
abbrev planX (c : Dev nD) : List (GSem nD τ sig × ℕ) := [debtXf c true 0, debtXf c true 1, debtXf c true 2, debtXf c true 3]
abbrev planYX (c : Dev nD) : List (GSem nD τ sig × ℕ) := debtXf c false 0 :: debtXf c false 1 :: debtXf c false 2 :: debtXf c false 3 :: planX c
/-- All a device owes, in the order it pays: both barriers, the y leg's landings, the x leg's. -/
abbrev plan (c : Dev nD) : List (GSem nD τ sig × ℕ) := debtBar c false :: debtBar c true :: planYX c

def L (g : GSem nD τ sig) : Finset Unit := if g.1.2 = .tc then {()} else ∅
/-- Barriers below the y leg's landings, those below the x leg's. -/
def lv (g : GSem nD τ sig) (_ : Unit) : ℕ := match g.2 with
  | .reg _ => 1
  | .dma q => match kind q with
    | some (l, true, _) => if l then 3 else 2
    | _ => 0

theorem L_of_ne (g : GSem nD τ sig) (h : g.1.2 ≠ .tc) : L g = ∅ := if_neg h
theorem L_tc (g : GSem nD τ sig) (h : g.1.2 = .tc) : L g = {()} := if_pos h
theorem lv_bar (c : Dev nD) : lv (bcell c) () = 1 := rfl
theorem lv_land (c : Dev nD) (l : Bool) (i : Fin 4) : lv (xcell c (l, true, i)) () = if l then 3 else 2 := by
  show (match kind (dsem (l, true, i)) with | some (l, true, _) => if l then 3 else 2 | _ => 0) = _
  rw [kind_dsem]

/-- Every debt is a TensorCore's, at level 1 or above; -/
theorem plan_levels (c : Dev nD) : ∀ p ∈ plan c, p.1.1.2 = .tc ∧ 0 < lv p.1 () := by
  simp only [plan, planYX, planX, debtBar, debtXf, List.forall_mem_cons, lv_bar, lv_land]
  simp
/-- past the barriers, at level 2 or above; -/
theorem planYX_levels (c : Dev nD) : ∀ p ∈ planYX c, p.1.1.2 = .tc ∧ 1 < lv p.1 () := by
  simp only [planYX, planX, debtXf, List.forall_mem_cons, lv_land]
  simp
/-- on the x leg, at level 3. -/
theorem planX_levels (c : Dev nD) : ∀ p ∈ planX c, p.1.1.2 = .tc ∧ 2 < lv p.1 () := by
  simp only [planX, debtXf, List.forall_mem_cons, lv_land]
  simp

omit [FloatOps F] in
theorem mayWait_stage (c : Dev nD) (q : DmaSem sig) (hq : kind q = none) (O : CellTallies nD τ sig Unit) (hO : O = owe (plan c) ∨ O = 0) :
    (levAts L lv : sProp 𝕄) ⊢ MayWait (c : Thread nD τ) (.dma q) () O := by
  rcases hO with rfl | rfl
  · refine mayWait_owe (c : Thread nD τ) (.dma q) (plan c) L_tc rfl fun p hp => ⟨(plan_levels c p hp).1, ?_⟩
    have h0 : lv ((c : Thread nD τ), .dma q) () = 0 := by
      show (match kind q with | some (l, true, _) => if l then 3 else 2 | _ => 0) = 0
      rw [hq]
    rw [h0]; exact (plan_levels c p hp).2
  · rw [MayWait_zero]; iintro -; iempintro
omit [FloatOps F] in
theorem mayWait_bar (c : Dev nD) : (levAts L lv : sProp 𝕄) ⊢ MayWait (c : Thread nD τ) (.reg barS) () (owe (planYX c)) :=
  mayWait_owe (c : Thread nD τ) (.reg barS) (planYX c) L_tc rfl fun p hp => planYX_levels c p hp
omit [FloatOps F] in
/-- A y landing may be awaited while the x leg's debts (or fewer) stand. -/
theorem mayWait_land (c : Dev nD) (i : Fin 4) (l : List (GSem nD τ sig × ℕ)) (hl : ∀ p ∈ l, p ∈ planX c) :
    (levAts L lv : sProp 𝕄) ⊢ MayWait (c : Thread nD τ) (.dma (dsem (false, true, i))) () (owe l) :=
  mayWait_owe (c : Thread nD τ) (.dma (dsem (false, true, i))) l L_tc rfl fun p hp => by
    have e : lv ((c : Thread nD τ), .dma (dsem (false, true, i))) () = 2 := lv_land c false i
    rw [e]; exact planX_levels c p (hl p hp)

end Cert.KernelIdeal.Combine

end
-- ==== Proof.KernelIdealBody.lean ====
/-
The combining call of v07: its body, executed once at a symbolic device.

The steps of an exchange (fill a chunk and send it, await a transfer and have its semaphore back at zero, read a landed chunk)
are lemmas at a symbolic leg and chunk; the body's text is then followed from the first signal to the last wait.
-/
module

public import proofs.«01_k».proof.Proof.KernelIdealProto

@[expose] public section

noncomputable section

namespace Cert.KernelIdeal.Combine

open Cert.KernelIdeal Cert.KernelIdeal.Gen Cert.Owing

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a piece of a device's body. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What the body holds -/

/-- All cells' invariants, and that round 0 of each is reached. -/
def records (K : Dev nD × Option Xf → ℕ) : sProp 𝕄 :=
  iprop((bigSep Finset.univ fun ck : Dev nD × Option Xf => cellInv ER (Rd m ρ) (K ck) (kcell ck))
    ∗ bigSep Finset.univ fun ck : Dev nD × Option Xf => reached ER (kcell ck) 0)
instance records_persistent (K : Dev nD × Option Xf → ℕ) : BI.Persistent (records m ρ K) := by unfold records; infer_instance

theorem inv_at (K : Dev nD × Option Xf → ℕ) (ck : Dev nD × Option Xf) : records m ρ K ⊢ cellInv ER (Rd m ρ) (K ck) (kcell ck) := by
  unfold records
  iintro ⟨H, -⟩
  iapply (show (bigSep Finset.univ fun ck : Dev nD × Option Xf => (cellInv ER (Rd m ρ) (K ck) (kcell ck) : sProp 𝕄)) ⊢ cellInv ER (Rd m ρ) (K ck) (kcell ck)
    from bigSep_elim (Finset.mem_univ ck))
  iexact H
theorem reached_at (K : Dev nD × Option Xf → ℕ) (ck : Dev nD × Option Xf) : records m ρ K ⊢ reached ER (kcell ck) 0 := by
  unfold records
  iintro ⟨-, H⟩
  iapply (show (bigSep Finset.univ fun ck : Dev nD × Option Xf => (reached ER (kcell ck) 0 : sProp 𝕄)) ⊢ reached ER (kcell ck) 0
    from bigSep_elim (Finset.mem_univ ck))
  iexact H

/-- A device's debts: those listed, its waits so far whatever they are. -/
def debts (c : Dev nD) (l : List (GSem nD τ sig × ℕ)) : sProp 𝕄 := iprop(∃ W, owes (c : Thread nD τ) (owe l) W)
/-- What sending a chunk takes besides the peer's landing chunk: both completions' tokens, the position at its own. -/
def gear (l : Bool) (i : Fin 4) (c : Dev nD) : sProp 𝕄 :=
  iprop(dutyTok ER (xcell c (l, false, i)) 0 false ∗ dutyTok ER (xcell (peer l c) (l, true, i)) 0 false ∗ atPos ER (xcell c (l, false, i)) 0 ∅ 0)
/-- The right to await a transfer. -/
def due (k : Xf) (c : Dev nD) : sProp 𝕄 := iprop(cred (tallyAt (xcell c k) () N) ∗ atPos ER (xcell c k) 0 ∅ 0)
/-- The result's staging buffer, its four chunks reading `w`. -/
def outs (c : Dev nD) (w : Fin 4 → Vec F S256x1024 .f32) : sProp 𝕄 :=
  iprop(∃ f : Buf (Elt F) ((c : Thread nD τ).loc cc0_stg2_0), ⌜∀ i, oM.view.readAt (Elt F) (oR i).toLoadRect f = w i⌝ ∗ (((c : Thread nD τ).loc cc0_stg2_0) ↦{fullShare} f))

/-! ## The steps -/

section Steps

variable (K : Dev nD × Option Xf → ℕ)

/-- Filling a send chunk (the load of what it held is dead). -/
theorem step_fill (c : Dev nD) (l : Bool) (i : Fin 4) (w : Vec F S1x256x1024 .bf16)
    {hl : (buf l false).view.LoadsAt (rct i).toLoadRect} {hx : ((buf l false).access (rct i)).Stores Finset.univ}
    {hm : (Finset.univ : Finset (rct i).shape.Idx) = Finset.univ ∨ ∀ a, (rct i).stride a = 1}
    {α : Type} {Q : α → sProp 𝕄} {k : PUnit → Prog (TpuEff nD τ sig (Elt F) Λ₀ .tc) α} :
    own l false i c ⊢ iprop((holds l false i c w -∗ run c (k ⟨⟩) Q)
      -∗ run c (.op (.load (buf l false) (rct i).toLoadRect hl) fun _ => .op (.store (buf l false) (rct i) w Finset.univ hx hm) k) Q) := by
  unfold own holds pts
  iintro ⟨%f, H⟩ Hk
  iapply (wp_load_rect 𝒱₀ (c : Thread nD τ) none Set.univ (m := buf l false) (r := rct i) (chk_set (buf l false) i).subset) $$ H; iintro H
  iapply (wp_store 𝒱₀ (c : Thread nD τ) none Set.univ (m := buf l false) (r := rct i) (Mk := Finset.univ) ((View.setOn_univ _).trans (chk_set (buf l false) i)).subset) $$ H; iintro H
  iapply Hk
  iexists _
  isplitr
  swap
  · iexact H
  · ipureintro
    exact View.read_write_univ (v := (buf l false).access (rct i)) f w

/-- Reading a landed chunk. -/
theorem step_read (c : Dev nD) (l d : Bool) (i : Fin 4) (w : Vec F S1x256x1024 .bf16)
    {hl : (buf l d).view.LoadsAt (rct i).toLoadRect} {α : Type} {Q : α → sProp 𝕄} {k : Vec F S1x256x1024 .bf16 → Prog (TpuEff nD τ sig (Elt F) Λ₀ .tc) α} :
    holds l d i c w ⊢ iprop((holds l d i c w -∗ run c (k w) Q) -∗ run c (.op (.load (buf l d) (rct i).toLoadRect hl) k) Q) := by
  unfold holds pts
  iintro ⟨%f, %hf, H⟩ Hk
  iapply (wp_load_rect 𝒱₀ (c : Thread nD τ) none Set.univ (m := buf l d) (r := rct i) (chk_set (buf l d) i).subset) $$ H; iintro H
  subst hf
  iapply Hk
  iexists f
  isplitr
  · ipureintro; rfl
  · iexact H

/-- Sending a chunk: the peer's landing chunk goes with it, the debt is paid, the completion at the sender is due. -/
theorem step_send (c n : Dev nD) (l : Bool) (i : Fin 4) (rest : List (GSem nD τ sig × ℕ)) (hn : n = peer l c)
    {hsc : (chk (buf l true) i : Memref sig (Dev.tc n : Thread nD τ).2.kind .vmem S256x1024 .bf16).view.ref.isScScratch = false}
    {hsrc : (chk (buf l false) i).view.WordExact} {hdst : (chk (buf l true) i).view.WordExact}
    {hsem : DmaTarget.Typed .vmem (.dma (dsem (l, true, i))) (.remote (Dev.tc n : Thread nD τ) (chk (buf l true) i) (.dma (dsem (l, false, i))) hsc)}
    {α : Type} {Q : α → sProp 𝕄} {k : PUnit → Prog (TpuEff nD τ sig (Elt F) Λ₀ .tc) α} :
    iprop(records m ρ K ∗ holds l false i c (sent m ρ l c i) ∗ own l true i (peer l c) ∗ gear l i c ∗ debts c (debtXf c l i :: rest))
      ⊢ iprop(((due (l, false, i) c ∗ debts c rest) -∗ run c (k ⟨⟩) Q)
          -∗ run c (.op (.enqueueDma (chk (buf l false) i) (.remote (Dev.tc n : Thread nD τ) (chk (buf l true) i) (.dma (dsem (l, false, i))) hsc) (.dma (dsem (l, true, i))) hsrc hdst hsem) k) Q) := by
  subst hn
  have hpay₁ : ∀ fs, (pts (F := F) l false i c fs) ⊢ (Rd m ρ).payload (xcell c (l, false, i)) 0 false := fun fs => by
    rw [payload_xf m ρ c (l, false, i)]; unfold land own
    dsimp only
    rw [if_neg Bool.false_ne_true]
    iintro H; iexists fs; iexact H
  have hpay₂ : ∀ (fs : Buf (Elt F) ((buf l false).view.loc (c : Thread nD τ))) (fd : Buf (Elt F) ((buf l true).view.loc (peer l c : Thread nD τ))),
      (buf l false).view.readAt (Elt F) (rct i).toLoadRect fs = sent m ρ l c i →
      (pts (F := F) l true i (peer l c) ((chk (buf l true) i).view.write (Elt F) fd ((chk (buf l false) i).view.read (Elt F) fs) Finset.univ))
        ⊢ (Rd m ρ).payload (xcell (peer l c) (l, true, i)) 0 false := fun fs fd hfs => by
    rw [payload_xf m ρ (peer l c) (l, true, i)]; unfold land holds
    dsimp only
    rw [if_pos rfl, peer_peer, ← hfs]
    iintro H; iexists _
    isplitr
    swap
    · iexact H
    · ipureintro; exact copy_read (buf l false) (buf l true) i fs fd
  have hd₁ : false ∈ (Rd (F := F) m ρ).duties (xcell c (l, false, i)) 0 := by rw [duties_xf]; exact Finset.mem_singleton_self _
  have hd₂ : false ∈ (Rd (F := F) m ρ).duties (xcell (peer l c) (l, true, i)) 0 := by rw [duties_xf]; exact Finset.mem_singleton_self _
  unfold gear debts
  iintro ⟨#HR, Hs, Hd, ⟨Ht1, Ht2, Hat⟩, ⟨%W, HO⟩⟩ Hk
  unfold holds own pts
  icases Hs with ⟨%fs, %hfs, Hs⟩
  icases Hd with ⟨%fd, Hd⟩
  iapply (Rounds.wp_send_pointsTo 𝒱₀ ER (Rd m ρ) (c : Thread nD τ) none (κ₁ := K (c, some (l, false, i))) (κ₂ := K (peer l c, some (l, true, i)))
    (c' := (peer l c : Thread nD τ)) (src := chk (buf l false) i) (dst := chk (buf l true) i) (r₁ := 0) (r₂ := 0) (d₁ := false) (d₂ := false) (fs := fs) (fd := fd)
    hd₁ hd₂ () () N (credit_eq l true i) (amount_xf m ρ c (l, false, i) false) (amount_xf m ρ (peer l c) (l, true, i) false) (owe rest) rfl (W := W)
    (hpay₁ fs) (hpay₂ fs fd hfs)) $$ [Hs Hd HO Ht1 Ht2]
  · isplitr; · iapply (inv_at m ρ K (c, some (l, false, i))); iexact HR
    isplitr; · iapply (inv_at m ρ K (peer l c, some (l, true, i))); iexact HR
    isplitl [Hs]; · iexact Hs
    isplitl [Hd]; · iexact Hd
    isplitl [HO]; · iexact HO
    isplitl [Ht1]; · iexact Ht1
    isplitr; · iapply (reached_at m ρ K (c, some (l, false, i))); iexact HR
    isplitl [Ht2]; · iexact Ht2
    iapply (reached_at m ρ K (peer l c, some (l, true, i))); iexact HR
  iintro ⟨Hc, HO⟩
  iapply Hk
  unfold due
  isplitl [Hc Hat]
  · isplitl [Hc] <;> iassumption
  iexists W; iexact HO

/-- Awaiting a transfer: what it hands over comes back, and the semaphore at zero. -/
theorem step_wait (c : Dev nD) (x : Xf) (rest : List (GSem nD τ sig × ℕ)) (q : DmaSem sig) (hq : q = dsem x)
    {src dst : Memref sig .tc .vmem S256x1024 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records m ρ K ∗ due x c ∗ debts c rest ∗ MayWait (c : Thread nD τ) (.dma (dsem x)) () (owe rest))
      ⊢ iprop(((land m ρ c x ∗ semVal (xcell c x) 0 ∗ debts c rest) -∗ run c (k ⟨⟩) Q)
          -∗ run c (.op (.waitDma2 q src dst hsrc hdst) k) Q) := by
  subst hq
  have he : 0 + dst.view.dmaCredit = (Rd (F := F) m ρ).expect (xcell c x) 0 := by rw [Nat.zero_add, hN, expect_xf]
  unfold due debts
  iintro ⟨#HR, ⟨Hc, Hat⟩, ⟨%W, HO⟩, HM⟩ Hk
  iapply (Rounds.wp_wait_rest_token 𝒱₀ ER (Rd m ρ) (c : Thread nD τ) none (κ := K (c, some x))
      (wpE_waitDma2_eq 𝒱₀ (c : Thread nD τ) none Set.univ) (Set.mem_univ _) () (O := owe rest) (W := W) (R := 0) (m := 0) (T := ∅) he) $$ [Hc HO HM Hat]
  · isplitr; · iapply (inv_at m ρ K (c, some x)); iexact HR
    isplitl [Hc]; · rw [hN]; iexact Hc
    isplitl [HO]; · iexact HO
    isplitl [HM]; · iexact HM
    iexact Hat
  iintro ⟨HO, Hat, -, Hpay⟩
  imod (Rounds.cell_close ER (Rd m ρ) (Set.mem_univ (K (c, some x))) (fun h => h) (R := 0 + 1) (duties_later m ρ (xcell c x))) $$ [Hat] with Hz
  · isplitr; · iapply (inv_at m ρ K (c, some x)); iexact HR
    iexact Hat
  iapply Hk
  isplitl [Hpay]; · iapply (Entails.of_eq (rest_xf m ρ c x)); iexact Hpay
  isplitl [Hz]; · iexact Hz
  iexists _; iexact HO

/-- Reading a chunk of the result's staging buffer. -/
theorem step_outRead (c : Dev nD) (i : Fin 4) (w : Fin 4 → Vec F S256x1024 .f32) (v : Vec F S256x1024 .f32) (hv : w i = v)
    {hl : oM.view.LoadsAt (oR i).toLoadRect} {α : Type} {Q : α → sProp 𝕄} {k : Vec F S256x1024 .f32 → Prog (TpuEff nD τ sig (Elt F) Λ₀ .tc) α} :
    outs c w ⊢ iprop((outs c w -∗ run c (k v) Q) -∗ run c (.op (.load oM (oR i).toLoadRect hl) k) Q) := by
  subst hv
  unfold outs
  iintro ⟨%f, %hf, H⟩ Hk
  iapply (wp_load 𝒱₀ (c : Thread nD τ) none Set.univ (m := oM) (r := (oR i).toLoadRect) (Finset.subset_univ _)) $$ H; iintro H
  rw [hf i]
  iapply Hk
  iexists f
  isplitr
  · ipureintro; exact hf
  · iexact H

theorem oR_disjoint {i j : Fin 4} (h : i ≠ j) : Disjoint (oR i).set (oR j).set :=
  Ring.lead_disjoint (s := S1024x1024) (0 : Fin 2) 256 (fun i : Fin 4 => ![256 * i.val, 0]) S256x1024.size oR_inb (fun _ => rfl) rfl i j h

/-- Writing a chunk of the result's staging buffer (the load before it is dead). -/
theorem step_outWrite (c : Dev nD) (i : Fin 4) (w : Fin 4 → Vec F S256x1024 .f32) (v : Vec F S256x1024 .f32)
    {hl : oM.view.LoadsAt (oR i).toLoadRect} {hx : (oM.access (oR i)).Stores Finset.univ}
    {hm : (Finset.univ : Finset (oR i).shape.Idx) = Finset.univ ∨ ∀ a, (oR i).stride a = 1}
    {α : Type} {Q : α → sProp 𝕄} {k : PUnit → Prog (TpuEff nD τ sig (Elt F) Λ₀ .tc) α} :
    outs c w ⊢ iprop((outs c (Function.update w i v) -∗ run c (k ⟨⟩) Q)
      -∗ run c (.op (.load oM (oR i).toLoadRect hl) fun _ => .op (.store oM (oR i) v Finset.univ hx hm) k) Q) := by
  unfold outs
  iintro ⟨%f, %hf, H⟩ Hk
  iapply (wp_load 𝒱₀ (c : Thread nD τ) none Set.univ (m := oM) (r := (oR i).toLoadRect) (Finset.subset_univ _)) $$ H; iintro H
  iapply (wp_store 𝒱₀ (c : Thread nD τ) none Set.univ (m := oM) (r := oR i) (Mk := Finset.univ) (Finset.subset_univ _)) $$ H; iintro H
  iapply Hk
  iexists _
  isplitr
  swap
  · iexact H
  · ipureintro
    intro j
    by_cases h : j = i
    · subst h
      rw [Function.update_self]
      exact View.read_write_univ (v := oM.access (oR j)) f v
    · rw [Function.update_of_ne h, ← hf j]
      exact View.read_slice_write_slice_of_disjoint (v := oM.view) (oR j) (oR i) f v _
        (by rw [View.setOn_univ, View.set_slice, View.set_slice]; exact (Finset.disjoint_map oM.view.emb).mpr (oR_disjoint h))

/-- Filling a send chunk with what the leg sends and sending it. -/
theorem step_post (c n : Dev nD) (l : Bool) (i : Fin 4) (rest : List (GSem nD τ sig × ℕ)) (hn : n = peer l c) (w : Vec F S1x256x1024 .bf16) (hw : w = sent m ρ l c i)
    {hl : (buf l false).view.LoadsAt (rct i).toLoadRect} {hx : ((buf l false).access (rct i)).Stores Finset.univ}
    {hm : (Finset.univ : Finset (rct i).shape.Idx) = Finset.univ ∨ ∀ a, (rct i).stride a = 1}
    {hsc : (chk (buf l true) i : Memref sig (Dev.tc n : Thread nD τ).2.kind .vmem S256x1024 .bf16).view.ref.isScScratch = false}
    {hsrc : (chk (buf l false) i).view.WordExact} {hdst : (chk (buf l true) i).view.WordExact}
    {hsem : DmaTarget.Typed .vmem (.dma (dsem (l, true, i))) (.remote (Dev.tc n : Thread nD τ) (chk (buf l true) i) (.dma (dsem (l, false, i))) hsc)}
    {α : Type} {Q : α → sProp 𝕄} {k : PUnit → Prog (TpuEff nD τ sig (Elt F) Λ₀ .tc) α} :
    iprop(records m ρ K ∗ own l false i c ∗ own l true i (peer l c) ∗ gear l i c ∗ debts c (debtXf c l i :: rest))
      ⊢ iprop(((due (l, false, i) c ∗ debts c rest) -∗ run c (k ⟨⟩) Q)
          -∗ run c (.op (.load (buf l false) (rct i).toLoadRect hl) fun _ => .op (.store (buf l false) (rct i) w Finset.univ hx hm) fun _ =>
            .op (.enqueueDma (chk (buf l false) i) (.remote (Dev.tc n : Thread nD τ) (chk (buf l true) i) (.dma (dsem (l, false, i))) hsc) (.dma (dsem (l, true, i))) hsrc hdst hsem) k) Q) := by
  subst hw
  iintro ⟨#HR, Hs, Hd, Hg, HO⟩ Hk
  iapply (step_fill c l i (sent m ρ l c i)) $$ Hs
  iintro Hs
  iapply (step_send m ρ K c n l i rest hn) $$ [Hs Hd Hg HO]
  · isplitr; · iexact HR
    isplitl [Hs]; · iexact Hs
    isplitl [Hd]; · iexact Hd
    isplitl [Hg] <;> iassumption
  iexact Hk

/-- A chunk of the y leg's end and the x leg's start: the peer's product awaited and read, the sum of both kept and sent on. -/
theorem step_pair (c n : Dev nD) (i : Fin 4) (rest : List (GSem nD τ sig × ℕ)) (hrest : ∀ p ∈ debtXf c true i :: rest, p ∈ planX c) (hn : n = peer true c)
    (g : Vec F S1x256x1024 .bf16 → Vec F S256x1024 .f32) (h : Vec F S1x256x1024 .bf16 → Vec F S1x256x1024 .bf16)
    (hg : g (sentY m ρ (peer false c) i) = half m ρ c i) (hh : h (sentY m ρ (peer false c) i) = sent m ρ true c i)
    (q : DmaSem sig) (hq : q = dsem (false, true, i)) (w : Fin 4 → Vec F S256x1024 .f32)
    {src dst : Memref sig .tc .vmem S256x1024 .bf16} {hsrc₀ : src.view.WordExact} {hdst₀ : dst.view.WordExact} (hN : dst.view.dmaCredit = N)
    {hr : (buf false true).view.LoadsAt (rct i).toLoadRect}
    {hlo : oM.view.LoadsAt (oR i).toLoadRect} {hxo : (oM.access (oR i)).Stores Finset.univ}
    {hmo : (Finset.univ : Finset (oR i).shape.Idx) = Finset.univ ∨ ∀ a, (oR i).stride a = 1}
    {hl : (buf true false).view.LoadsAt (rct i).toLoadRect} {hx : ((buf true false).access (rct i)).Stores Finset.univ}
    {hm : (Finset.univ : Finset (rct i).shape.Idx) = Finset.univ ∨ ∀ a, (rct i).stride a = 1}
    {hsc : (chk (buf true true) i : Memref sig (Dev.tc n : Thread nD τ).2.kind .vmem S256x1024 .bf16).view.ref.isScScratch = false}
    {hsrc : (chk (buf true false) i).view.WordExact} {hdst : (chk (buf true true) i).view.WordExact}
    {hsem : DmaTarget.Typed .vmem (.dma (dsem (true, true, i))) (.remote (Dev.tc n : Thread nD τ) (chk (buf true true) i) (.dma (dsem (true, false, i))) hsc)}
    {α : Type} {Q : α → sProp 𝕄} {k : PUnit → Prog (TpuEff nD τ sig (Elt F) Λ₀ .tc) α} :
    iprop(records m ρ K ∗ levAts L lv ∗ due (false, true, i) c ∗ outs c w ∗ own true false i c ∗ own true true i (peer true c) ∗ gear true i c
        ∗ debts c (debtXf c true i :: rest))
      ⊢ iprop(((own false true i c ∗ semVal (xcell c (false, true, i)) 0 ∗ outs c (Function.update w i (half m ρ c i)) ∗ due (true, false, i) c ∗ debts c rest)
            -∗ run c (k ⟨⟩) Q)
          -∗ run c (.op (.waitDma2 q src dst hsrc₀ hdst₀) fun _ => .op (.load (buf false true) (rct i).toLoadRect hr) fun v =>
            .op (.load oM (oR i).toLoadRect hlo) fun _ => .op (.store oM (oR i) (g v) Finset.univ hxo hmo) fun _ =>
            .op (.load (buf true false) (rct i).toLoadRect hl) fun _ => .op (.store (buf true false) (rct i) (h v) Finset.univ hx hm) fun _ =>
            .op (.enqueueDma (chk (buf true false) i) (.remote (Dev.tc n : Thread nD τ) (chk (buf true true) i) (.dma (dsem (true, false, i))) hsc) (.dma (dsem (true, true, i))) hsrc hdst hsem) k) Q) := by
  iintro ⟨#HR, #Hlev, Hdue, Hout, Hs, Hd, Hg, HO⟩ Hk
  iapply (step_wait m ρ K c (false, true, i) (debtXf c true i :: rest) q hq hN) $$ [Hdue HO]
  · isplitr; · iexact HR
    isplitl [Hdue]; · iexact Hdue
    isplitl [HO]; · iexact HO
    iapply (mayWait_land (F := F) c i _ hrest); iexact Hlev
  iintro ⟨Hland, Hz, HO⟩
  ihave Hr := (show land m ρ c (false, true, i) ⊢ holds false true i c (sentY m ρ (peer false c) i) from .rfl) $$ Hland
  iapply (step_read c false true i (sentY m ρ (peer false c) i)) $$ Hr
  iintro Hr
  rw [hg]
  iapply (step_outWrite c i w (half m ρ c i)) $$ Hout
  iintro Hout
  iapply (step_post m ρ K c n true i rest hn _ hh) $$ [Hs Hd Hg HO]
  · isplitr; · iexact HR
    isplitl [Hs]; · iexact Hs
    isplitl [Hd]; · iexact Hd
    isplitl [Hg] <;> iassumption
  iintro ⟨Hdx, HO⟩
  iapply Hk
  isplitl [Hr]; · iapply (holds_own false true i c _); iexact Hr
  isplitl [Hz]; · iexact Hz
  isplitl [Hout]; · iexact Hout
  isplitl [Hdx] <;> iassumption

/-- A chunk of the x leg's end: the x peer's sum awaited, read and added. -/
theorem step_total (c : Dev nD) (i : Fin 4) (g : Vec F S256x1024 .f32 → Vec F S1x256x1024 .bf16 → Vec F S256x1024 .f32)
    (hg : g (half m ρ c i) (sentX m ρ (peer true c) i) = full m ρ c i)
    (q : DmaSem sig) (hq : q = dsem (true, true, i)) (w : Fin 4 → Vec F S256x1024 .f32) (hw : w i = half m ρ c i)
    {src dst : Memref sig .tc .vmem S256x1024 .bf16} {hsrc₀ : src.view.WordExact} {hdst₀ : dst.view.WordExact} (hN : dst.view.dmaCredit = N)
    {hr : (buf true true).view.LoadsAt (rct i).toLoadRect}
    {hlo hlo' : oM.view.LoadsAt (oR i).toLoadRect} {hxo : (oM.access (oR i)).Stores Finset.univ}
    {hmo : (Finset.univ : Finset (oR i).shape.Idx) = Finset.univ ∨ ∀ a, (oR i).stride a = 1}
    {α : Type} {Q : α → sProp 𝕄} {k : PUnit → Prog (TpuEff nD τ sig (Elt F) Λ₀ .tc) α} :
    iprop(records m ρ K ∗ due (true, true, i) c ∗ outs c w ∗ debts c [])
      ⊢ iprop(((own true true i c ∗ semVal (xcell c (true, true, i)) 0 ∗ outs c (Function.update w i (full m ρ c i)) ∗ debts c [])
            -∗ run c (k ⟨⟩) Q)
          -∗ run c (.op (.waitDma2 q src dst hsrc₀ hdst₀) fun _ => .op (.load oM (oR i).toLoadRect hlo) fun u =>
            .op (.load (buf true true) (rct i).toLoadRect hr) fun v =>
            .op (.load oM (oR i).toLoadRect hlo') fun _ => .op (.store oM (oR i) (g u v) Finset.univ hxo hmo) k) Q) := by
  iintro ⟨#HR, Hdue, Hout, HO⟩ Hk
  iapply (step_wait m ρ K c (true, true, i) [] q hq hN) $$ [Hdue HO]
  · isplitr; · iexact HR
    isplitl [Hdue]; · iexact Hdue
    isplitl [HO]; · iexact HO
    rw [owe_nil, MayWait_zero]; iempintro
  iintro ⟨Hland, Hz, HO⟩
  ihave Hr := (show land m ρ c (true, true, i) ⊢ holds true true i c (sentX m ρ (peer true c) i) from .rfl) $$ Hland
  iapply (step_outRead c i w (half m ρ c i) hw) $$ Hout
  iintro Hout
  iapply (step_read c true true i (sentX m ρ (peer true c) i)) $$ Hr
  iintro Hr
  rw [hg]
  iapply (step_outWrite c i w (full m ρ c i)) $$ Hout
  iintro Hout
  iapply Hk
  isplitl [Hr]; · iapply (holds_own true true i c _); iexact Hr
  isplitl [Hz]; · iexact Hz
  isplitl [Hout] <;> iassumption

/-- Awaiting a transfer's end at the sender, nothing owed: the send chunk comes back. -/
theorem step_back (c : Dev nD) (l : Bool) (i : Fin 4) (q : DmaSem sig) (hq : q = dsem (l, false, i))
    {src dst : Memref sig .tc .vmem S256x1024 .bf16} {hsrc₀ : src.view.WordExact} {hdst₀ : dst.view.WordExact} (hN : dst.view.dmaCredit = N)
    {α : Type} {Q : α → sProp 𝕄} {k : PUnit → Prog (TpuEff nD τ sig (Elt F) Λ₀ .tc) α} :
    iprop(records m ρ K ∗ due (l, false, i) c ∗ debts c [])
      ⊢ iprop(((own l false i c ∗ semVal (xcell c (l, false, i)) 0 ∗ debts c []) -∗ run c (k ⟨⟩) Q)
          -∗ run c (.op (.waitDma2 q src dst hsrc₀ hdst₀) k) Q) := by
  iintro ⟨#HR, Hdue, HO⟩ Hk
  iapply (step_wait m ρ K c (l, false, i) [] q hq hN) $$ [Hdue HO]
  · isplitr; · iexact HR
    isplitl [Hdue]; · iexact Hdue
    isplitl [HO]; · iexact HO
    rw [owe_nil, MayWait_zero]; iempintro
  iintro ⟨Hland, Hz, HO⟩
  ihave Hr := (show land m ρ c (l, false, i) ⊢ own l false i c from .rfl) $$ Hland
  iapply Hk
  isplitl [Hr]; · iexact Hr
  isplitl [Hz] <;> iassumption

end Steps

end Cert.KernelIdeal.Combine

end
-- ==== Proof.KernelIdealSound.lean ====
/-
The combining call of v07: its body followed from the first signal to the last wait, and the pipeline's obligation for it.
-/
module

public import proofs.«01_k».proof.Proof.KernelIdealBody

@[expose] public section

noncomputable section

namespace Cert.KernelIdeal.Combine

open Cert.KernelIdeal Cert.KernelIdeal.Gen Cert.Owing

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

abbrev Leg : Type := Bool × Fin 4
/-- All chunks of the four exchange buffers, each whole at some contents. -/
def chunks (c : Dev nD) : sProp 𝕄 := bigSep Finset.univ fun k : Xf => own k.1 k.2.1 k.2.2 c
/-- All of a device's own semaphores at zero. -/
def zeros (c : Dev nD) : sProp 𝕄 := bigSep Finset.univ fun k : Option Xf => semVal (kcell (c, k)) 0
/-- What the barrier takes of a device: a token of either peer's, its own position. -/
def barGear (c : Dev nD) : sProp 𝕄 :=
  iprop(dutyTok ER (bcell (peer false c)) 0 false ∗ dutyTok ER (bcell (peer true c)) 0 true ∗ atPos ER (bcell c) 0 ∅ 0)
/-- The ghost state a device's body works with. -/
def linear (c : Dev nD) : sProp 𝕄 :=
  iprop(barGear c ∗ (bigSep Finset.univ fun a : Leg => gear a.1 a.2 c) ∗ bigSep Finset.univ fun a : Leg => atPos ER (xcell c (a.1, true, a.2)) 0 ∅ 0)
/-- The credit it starts with: two units at its barrier, every landing's bytes. -/
def funds (c : Dev nD) : sProp 𝕄 :=
  iprop(cred (tallyAt (bcell c) () 2) ∗ bigSep Finset.univ fun a : Leg => cred (tallyAt (xcell c (a.1, true, a.2)) () N))
def start (c : Dev nD) : sProp 𝕄 := iprop((∃ K, records m ρ K ∗ linear c) ∗ funds c ∗ levAts L lv)

def Φ₀ (c : Dev nD) : sProp 𝕄 := iprop(start m ρ c ∗ chunks c)
def Φ₁ (c : Dev nD) : sProp 𝕄 := iprop(zeros c ∗ chunks c)

theorem rowLt (x : S1024x1024.Idx) : (x 0).val < 1024 := (x 0).isLt
/-- Which chunk a row of the result is of, and its place there. -/
def chunkOf (x : S1024x1024.Idx) : Fin 4 := ⟨(x 0).val / 256, by have := rowLt x; omega⟩
def placeOf (x : S1024x1024.Idx) : S256x1024.Idx := fun
  | ⟨0, _⟩ => ⟨(x 0).val % 256, Nat.mod_lt _ (by decide)⟩
  | ⟨1, _⟩ => ⟨(x 1).val, (x 1).isLt⟩
/-- The result's block on device `c`. -/
def outAt (c : Dev nD) : (cc0_stg2_0 : Ref sig .tc).ty.Contents (Elt F) := fun x => full m ρ c (chunkOf x) (placeOf x)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pst m ρ c
    | ⟨1, _⟩ => yst m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owe (plan c)
    | ⟨_ + 1, _⟩ => 0

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Families written out -/

omit [FloatOps F] in
theorem bigSep_leg (Φ : Leg → sProp 𝕄) : bigSep Finset.univ Φ
    = iprop(Φ (false, 0) ∗ Φ (false, 1) ∗ Φ (false, 2) ∗ Φ (false, 3) ∗ Φ (true, 0) ∗ Φ (true, 1) ∗ Φ (true, 2) ∗ Φ (true, 3)) :=
  bigSep_univ_eq_bigSepL [(false, 0), (false, 1), (false, 2), (false, 3), (true, 0), (true, 1), (true, 2), (true, 3)] (by decide) (by decide) Φ
omit [FloatOps F] in
theorem bigSep_xf (Φ : Xf → sProp 𝕄) : bigSep Finset.univ Φ
    = iprop((Φ (false, false, 0) ∗ Φ (false, false, 1) ∗ Φ (false, false, 2) ∗ Φ (false, false, 3))
        ∗ (Φ (false, true, 0) ∗ Φ (false, true, 1) ∗ Φ (false, true, 2) ∗ Φ (false, true, 3))
        ∗ (Φ (true, false, 0) ∗ Φ (true, false, 1) ∗ Φ (true, false, 2) ∗ Φ (true, false, 3))
        ∗ (Φ (true, true, 0) ∗ Φ (true, true, 1) ∗ Φ (true, true, 2) ∗ Φ (true, true, 3))) := by
  have h4 (Ψ : Fin 4 → sProp 𝕄) : bigSep Finset.univ Ψ = iprop(Ψ 0 ∗ Ψ 1 ∗ Ψ 2 ∗ Ψ 3) := bigSep_univ_eq_bigSepL [0, 1, 2, 3] (by decide) (by decide) Ψ
  have h2 (Ψ : Bool → sProp 𝕄) : bigSep Finset.univ Ψ = iprop(Ψ false ∗ Ψ true) := bigSep_univ_eq_bigSepL [false, true] (by decide) (by decide) Ψ
  rw [bigSep_univ_prod, h2, bigSep_univ_prod, bigSep_univ_prod, h2, h2, h4, h4, h4, h4]
  exact equiv_iff.mp ⟨BI.sep_assoc, BI.sep_assoc'⟩
omit [FloatOps F] in
theorem bigSep_cells (Φ : Option Xf → sProp 𝕄) : bigSep Finset.univ Φ = iprop(Φ none ∗ bigSep Finset.univ fun k : Xf => Φ (some k)) := by
  have e : (Finset.univ : Finset (Option Xf)) = insert none (Finset.univ.map Function.Embedding.some) := by
    ext x; cases x <;> simp
  rw [e, bigSep_insert (by simp), bigSep_map]
  rfl

/-! ## The result's staging buffer -/

omit [FloatOps F] in
theorem outs_intro (c : Dev nD) (f : Buf (Elt F) ((c : Thread nD τ).loc cc0_stg2_0)) :
    ((((c : Thread nD τ).loc cc0_stg2_0) ↦{fullShare} f : sProp 𝕄)) ⊢ outs c (fun i => oM.view.readAt (Elt F) (oR i).toLoadRect f) := by
  unfold outs
  iintro H
  iexists f
  isplitr
  · ipureintro; exact fun _ => rfl
  · iexact H

theorem place_emb (x : S1024x1024.Idx) : (oR (chunkOf x)).emb (placeOf x) = x := by
  funext a
  apply Fin.ext
  match a with
  | ⟨0, _⟩ =>
    show 256 * ((x 0).val / 256) + 1 * ((x 0).val % 256) = (x 0).val
    omega
  | ⟨1, _⟩ =>
    show 0 + 1 * (x 1).val = (x 1).val
    omega

theorem outs_full (c : Dev nD) : outs c (full m ρ c) ⊢ (((c : Thread nD τ).loc cc0_stg2_0) ↦{fullShare} outAt m ρ c : sProp 𝕄) := by
  unfold outs
  iintro ⟨%f, %hf, H⟩
  have e : f = outAt m ρ c := by
    funext x
    unfold outAt
    rw [← hf (chunkOf x)]
    show f x = f ((oR (chunkOf x)).emb (placeOf x))
    rw [place_emb]
  rw [e]
  iexact H

/-! ## The body -/

section Body

variable (K : Dev nD × Option Xf → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((records m ρ K ∗ levAts L lv ∗ linear c ∗ funds c ∗ chunks c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (pst m ρ c) ∗ stg c cc0_stg1_0 (yst m ρ c) ∗ stg c cc0_stg2_0 (outAt m ρ c))

/-- The signal to a peer's barrier: the landing chunks of that leg go with it, a debt is paid. -/
theorem step_signal (c n : Dev nD) (l : Bool) (rest : List (GSem nD τ sig × ℕ)) (hn : n = peer l c)
    {α : Type} {Q : α → sProp 𝕄} {k : PUnit → Prog (TpuEff nD τ sig (Elt F) Λ₀ .tc) α} :
    iprop(records m ρ K ∗ dutyTok ER (bcell (peer l c)) 0 l ∗ (own l true 0 c ∗ own l true 1 c ∗ own l true 2 c ∗ own l true 3 c) ∗ debts c (debtBar c l :: rest))
      ⊢ iprop((debts c rest -∗ run c (k ⟨⟩) Q) -∗ run c (.op (.semSignal (Dev.tc n : Thread nD τ) barS 1) k) Q) := by
  subst hn
  have hd : l ∈ (Rd (F := F) m ρ).duties (bcell (peer l c)) 0 := by rw [duties_bar]; exact Finset.mem_univ _
  unfold debts
  iintro ⟨#HR, Ht, Hown, ⟨%W, HO⟩⟩ Hk
  iapply (Rounds.wp_signal 𝒱₀ ER (Rd m ρ) (c : Thread nD τ) none (dst := (peer l c : Thread nD τ)) (κ := K (peer l c, none))
      (d := l) hd (amount_bar m ρ (peer l c) l) () (owe rest) rfl (W := W)) $$ [HO Ht Hown]
  · isplitr; · iapply (inv_at m ρ K (peer l c, none)); iexact HR
    isplitl [HO]; · iexact HO
    isplitl [Ht]; · iexact Ht
    isplitl [Hown]
    · rw [payload_bar]; unfold lend; rw [peer_peer]; iexact Hown
    · iapply (reached_at m ρ K (peer l c, none)); iexact HR
  iintro HO
  iapply Hk
  iexists W; iexact HO

/-- The wait for both peers: their landing chunks arrive, the barrier is back at zero. -/
theorem step_barrier (c : Dev nD)
    {α : Type} {Q : α → sProp 𝕄} {k : PUnit → Prog (TpuEff nD τ sig (Elt F) Λ₀ .tc) α} :
    iprop(records m ρ K ∗ levAts L lv ∗ atPos ER (bcell c) 0 ∅ 0 ∗ cred (tallyAt (bcell c) () 2) ∗ debts c (planYX c))
      ⊢ iprop(((lend false c ∗ lend true c ∗ semVal (bcell c) 0 ∗ debts c (planYX c)) -∗ run c (k ⟨⟩) Q)
          -∗ run c (.op (.semWait barS 2) k) Q) := by
  have he : 0 + 2 = (Rd (F := F) m ρ).expect (bcell c) 0 := by rw [expect_bar]
  unfold debts
  iintro ⟨#HR, #Hlev, Hat, Hc, ⟨%W, HO⟩⟩ Hk
  iapply (Rounds.wp_wait_rest_token 𝒱₀ ER (Rd m ρ) (c : Thread nD τ) none (κ := K (c, none))
      (wpE_semWait_eq 𝒱₀ (c : Thread nD τ) none Set.univ) (Set.mem_univ _) () (O := owe (planYX c)) (W := W) (R := 0) (m := 0) (T := ∅) he) $$ [Hc HO Hat]
  · isplitr; · iapply (inv_at m ρ K (c, none)); iexact HR
    isplitl [Hc]; · iexact Hc
    isplitl [HO]; · iexact HO
    isplitr; · iapply (mayWait_bar (F := F) c); iexact Hlev
    iexact Hat
  iintro ⟨HO, Hat, -, Hpay⟩
  imod (Rounds.cell_close ER (Rd m ρ) (Set.mem_univ (K (c, none))) (fun h => h) (R := 0 + 1) (duties_later m ρ (bcell c))) $$ [Hat] with Hz
  · isplitr; · iapply (inv_at m ρ K (c, none)); iexact HR
    iexact Hat
  ihave Hp := (Entails.of_eq (rest_bar m ρ c)) $$ Hpay
  icases Hp with ⟨H1, H2⟩
  iapply Hk
  isplitl [H1]; · iexact H1
  isplitl [H2]; · iexact H2
  isplitl [Hz]; · iexact Hz
  iexists _; iexact HO

set_option maxHeartbeats 4000000 in
set_option maxRecDepth 4000 in
/-- The body, from what a device holds at the start to what it holds at the end. -/
theorem sound_body (c : Dev nD) (Kt : PUnit → sProp 𝕄) :
    iprop(bodyPre m ρ K c ∗ (bodyPost m ρ c -∗ Kt ⟨⟩))
      ⊢ run c (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5 cc0_scratch6 cc0_scratch7) Kt := by
  simp only [cc0_body_eq_skeleton]; unfold cc0_body_skel
  simp only [k0_part13_eq_skeleton]; unfold k0_part13_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [run, semSignalWord, semWaitWord, Prog.lift, Prog.bind_op, Prog.bind_ret, Prog.pure_eq_ret, Prog.bind_assoc, wp_deviceId]
  unfold bodyPre chunks linear funds barGear
  rw [bigSep_xf, bigSep_leg, bigSep_leg, bigSep_leg]
  iintro ⟨⟨⟨#HR, #Hlev, ⟨⟨Hb1, Hb2, Hbat⟩, ⟨Hg0, Hg1, Hg2, Hg3, Hh0, Hh1, Hh2, Hh3⟩, ⟨Ha0, Ha1, Ha2, Ha3, Hk0, Hk1, Hk2, Hk3⟩⟩, ⟨Hcb, ⟨Hc0, Hc1, Hc2, Hc3, Hd0, Hd1, Hd2, Hd3⟩⟩,
      ⟨⟨A0, A1, A2, A3⟩, ⟨B0, B1, B2, B3⟩, ⟨C0, C1, C2, C3⟩, ⟨D0, D1, D2, D3⟩⟩⟩, HO, ⟨%_d0, %fp, %hfp, Hp⟩, ⟨%_d1, %fy, %hfy, Hy⟩, ⟨%_d2, %fo, %hfo, Ho⟩⟩, Hret⟩
  have hp : fp = pst m ρ c := hfp.trans (by unfold Dat.before; rw [if_pos (fetch_0 t₀)]; rfl)
  have hy : fy = yst m ρ c := hfy.trans (by unfold Dat.before; rw [if_pos (fetch_1 t₀)]; rfl)
  subst hp hy
  unfold Dat.owesAt Pipeline.owesWithin
  icases HO with ⟨%W, %_hW, HO⟩
  ihave HO := (show owes (c : Thread nD τ) ((dats m ρ 0 c).owed t₀.castSucc) W ⊢ debts (F := F) c (plan c) from by
    unfold debts; iintro H; iexists W; iexact H) $$ HO
  ihave Hout := (outs_intro c fo) $$ Ho
  -- the two signals and the wait
  iapply (step_signal m ρ K c _ false (debtBar c true :: planYX c) (dev1_eq c)) $$ [Hb1 B0 B1 B2 B3 HO]
  · isplitr; · iexact HR
    isplitl [Hb1]; · iexact Hb1
    isplitl [B0 B1 B2 B3]
    · isplitl [B0]; · iexact B0
      isplitl [B1]; · iexact B1
      isplitl [B2] <;> iassumption
    iexact HO
  iintro HO
  iapply (step_signal m ρ K c _ true (planYX c) (dev2_eq c)) $$ [Hb2 D0 D1 D2 D3 HO]
  · isplitr; · iexact HR
    isplitl [Hb2]; · iexact Hb2
    isplitl [D0 D1 D2 D3]
    · isplitl [D0]; · iexact D0
      isplitl [D1]; · iexact D1
      isplitl [D2] <;> iassumption
    iexact HO
  iintro HO
  iapply (step_barrier m ρ K c) $$ [Hbat Hcb HO]
  · isplitr; · iexact HR
    isplitr; · iexact Hlev
    isplitl [Hbat]; · iexact Hbat
    isplitl [Hcb]; · iexact Hcb
    iexact HO
  unfold lend
  iintro ⟨⟨E0, E1, E2, E3⟩, ⟨F0, F1, F2, F3⟩, Hzb, HO⟩
  iapply (wp_load 𝒱₀ (c : Thread nD τ) none Set.univ (m := yM) (r := yR.toLoadRect) (Finset.subset_univ _)) $$ Hy; iintro Hy
  -- the y leg's sends
  iapply (wp_load 𝒱₀ (c : Thread nD τ) none Set.univ (m := pM) (r := (gR c 0).toLoadRect) (Finset.subset_univ _)) $$ Hp; iintro Hp
  iapply (step_post m ρ K c _ false 0 (debtXf c false 1 :: debtXf c false 2 :: debtXf c false 3 :: planX c) (dev3_eq c) (sentY m ρ c 0) rfl) $$ [A0 E0 Hg0 HO]
  · isplitr; · iexact HR
    isplitl [A0]; · iexact A0
    isplitl [E0]; · iexact E0
    isplitl [Hg0] <;> iassumption
  iintro ⟨Hs0, HO⟩
  iapply (wp_load 𝒱₀ (c : Thread nD τ) none Set.univ (m := pM) (r := (gR c 1).toLoadRect) (Finset.subset_univ _)) $$ Hp; iintro Hp
  iapply (step_post m ρ K c _ false 1 (debtXf c false 2 :: debtXf c false 3 :: planX c) (dev4_eq c) (sentY m ρ c 1) rfl) $$ [A1 E1 Hg1 HO]
  · isplitr; · iexact HR
    isplitl [A1]; · iexact A1
    isplitl [E1]; · iexact E1
    isplitl [Hg1] <;> iassumption
  iintro ⟨Hs1, HO⟩
  iapply (wp_load 𝒱₀ (c : Thread nD τ) none Set.univ (m := pM) (r := (gR c 2).toLoadRect) (Finset.subset_univ _)) $$ Hp; iintro Hp
  iapply (step_post m ρ K c _ false 2 (debtXf c false 3 :: planX c) (dev5_eq c) (sentY m ρ c 2) rfl) $$ [A2 E2 Hg2 HO]
  · isplitr; · iexact HR
    isplitl [A2]; · iexact A2
    isplitl [E2]; · iexact E2
    isplitl [Hg2] <;> iassumption
  iintro ⟨Hs2, HO⟩
  iapply (wp_load 𝒱₀ (c : Thread nD τ) none Set.univ (m := pM) (r := (gR c 3).toLoadRect) (Finset.subset_univ _)) $$ Hp; iintro Hp
  iapply (step_post m ρ K c _ false 3 (planX c) (dev6_eq c) (sentY m ρ c 3) rfl) $$ [A3 E3 Hg3 HO]
  · isplitr; · iexact HR
    isplitl [A3]; · iexact A3
    isplitl [E3]; · iexact E3
    isplitl [Hg3] <;> iassumption
  iintro ⟨Hs3, HO⟩
  -- the y leg's ends, the x leg's sends
  iapply (wp_load 𝒱₀ (c : Thread nD τ) none Set.univ (m := pM) (r := (hR c 0).toLoadRect) (Finset.subset_univ _)) $$ Hp; iintro Hp
  iapply (step_pair m ρ K c _ 0 [debtXf c true 1, debtXf c true 2, debtXf c true 3] (by unfold planX; simp) (dev7_eq c) (k0_pay9 (mine m ρ c 0)) (k0_pay10 (mine m ρ c 0)) rfl rfl
    (dsem (false, true, 0)) rfl (fun i => oM.view.readAt (Elt F) (oR i).toLoadRect fo) (dst := chk (buf false true) 0) (credit_eq false true 0)) $$ [Ha0 Hc0 Hout C0 F0 Hh0 HO]
  · isplitr; · iexact HR
    isplitr; · iexact Hlev
    isplitl [Ha0 Hc0]; · unfold due; isplitl [Hc0] <;> iassumption
    isplitl [Hout]; · iexact Hout
    isplitl [C0]; · iexact C0
    isplitl [F0]; · iexact F0
    isplitl [Hh0] <;> iassumption
  iintro ⟨B0, Hzr0, Hout, Hx0, HO⟩
  iapply (wp_load 𝒱₀ (c : Thread nD τ) none Set.univ (m := pM) (r := (hR c 1).toLoadRect) (Finset.subset_univ _)) $$ Hp; iintro Hp
  iapply (step_pair m ρ K c _ 1 [debtXf c true 2, debtXf c true 3] (by unfold planX; simp) (dev8_eq c) (k0_pay9 (mine m ρ c 1)) (k0_pay10 (mine m ρ c 1)) rfl rfl
    (dsem (false, true, 1)) rfl (Function.update (fun i => oM.view.readAt (Elt F) (oR i).toLoadRect fo) 0 (half m ρ c 0)) (dst := chk (buf false true) 1) (credit_eq false true 1)) $$ [Ha1 Hc1 Hout C1 F1 Hh1 HO]
  · isplitr; · iexact HR
    isplitr; · iexact Hlev
    isplitl [Ha1 Hc1]; · unfold due; isplitl [Hc1] <;> iassumption
    isplitl [Hout]; · iexact Hout
    isplitl [C1]; · iexact C1
    isplitl [F1]; · iexact F1
    isplitl [Hh1] <;> iassumption
  iintro ⟨B1, Hzr1, Hout, Hx1, HO⟩
  iapply (wp_load 𝒱₀ (c : Thread nD τ) none Set.univ (m := pM) (r := (hR c 2).toLoadRect) (Finset.subset_univ _)) $$ Hp; iintro Hp
  iapply (step_pair m ρ K c _ 2 [debtXf c true 3] (by unfold planX; simp) (dev9_eq c) (k0_pay9 (mine m ρ c 2)) (k0_pay10 (mine m ρ c 2)) rfl rfl
    (dsem (false, true, 2)) rfl (Function.update (Function.update (fun i => oM.view.readAt (Elt F) (oR i).toLoadRect fo) 0 (half m ρ c 0)) 1 (half m ρ c 1)) (dst := chk (buf false true) 2) (credit_eq false true 2)) $$ [Ha2 Hc2 Hout C2 F2 Hh2 HO]
  · isplitr; · iexact HR
    isplitr; · iexact Hlev
    isplitl [Ha2 Hc2]; · unfold due; isplitl [Hc2] <;> iassumption
    isplitl [Hout]; · iexact Hout
    isplitl [C2]; · iexact C2
    isplitl [F2]; · iexact F2
    isplitl [Hh2] <;> iassumption
  iintro ⟨B2, Hzr2, Hout, Hx2, HO⟩
  iapply (wp_load 𝒱₀ (c : Thread nD τ) none Set.univ (m := pM) (r := (hR c 3).toLoadRect) (Finset.subset_univ _)) $$ Hp; iintro Hp
  iapply (step_pair m ρ K c _ 3 [] (by unfold planX; simp) (dev10_eq c) (k0_pay9 (mine m ρ c 3)) (k0_pay10 (mine m ρ c 3)) rfl rfl
    (dsem (false, true, 3)) rfl (Function.update (Function.update (Function.update (fun i => oM.view.readAt (Elt F) (oR i).toLoadRect fo) 0 (half m ρ c 0)) 1 (half m ρ c 1)) 2 (half m ρ c 2)) (dst := chk (buf false true) 3) (credit_eq false true 3)) $$ [Ha3 Hc3 Hout C3 F3 Hh3 HO]
  · isplitr; · iexact HR
    isplitr; · iexact Hlev
    isplitl [Ha3 Hc3]; · unfold due; isplitl [Hc3] <;> iassumption
    isplitl [Hout]; · iexact Hout
    isplitl [C3]; · iexact C3
    isplitl [F3]; · iexact F3
    isplitl [Hh3] <;> iassumption
  iintro ⟨B3, Hzr3, Hout, Hx3, HO⟩
  ihave Hout := (show outs c (Function.update (Function.update (Function.update (Function.update (fun i => oM.view.readAt (Elt F) (oR i).toLoadRect fo) 0 (half m ρ c 0)) 1 (half m ρ c 1)) 2 (half m ρ c 2)) 3 (half m ρ c 3)) ⊢ outs c (half m ρ c) from
    Entails.of_eq (congrArg (outs c) (funext fun i => by fin_cases i <;> rfl))) $$ Hout
  -- the x leg's ends
  iapply (step_total m ρ K c 0 (fun u v => k0_pay19 u v) rfl (dsem (true, true, 0)) rfl (half m ρ c) rfl (dst := chk (buf true true) 0) (credit_eq true true 0)) $$ [Hk0 Hd0 Hout HO]
  · isplitr; · iexact HR
    isplitl [Hk0 Hd0]; · unfold due; isplitl [Hd0] <;> iassumption
    isplitl [Hout] <;> iassumption
  iintro ⟨D0, Hzx0, Hout, HO⟩
  iapply (step_total m ρ K c 1 (fun u v => k0_pay19 u v) rfl (dsem (true, true, 1)) rfl (Function.update (half m ρ c) 0 (full m ρ c 0)) rfl (dst := chk (buf true true) 1) (credit_eq true true 1)) $$ [Hk1 Hd1 Hout HO]
  · isplitr; · iexact HR
    isplitl [Hk1 Hd1]; · unfold due; isplitl [Hd1] <;> iassumption
    isplitl [Hout] <;> iassumption
  iintro ⟨D1, Hzx1, Hout, HO⟩
  iapply (step_total m ρ K c 2 (fun u v => k0_pay19 u v) rfl (dsem (true, true, 2)) rfl (Function.update (Function.update (half m ρ c) 0 (full m ρ c 0)) 1 (full m ρ c 1)) rfl (dst := chk (buf true true) 2) (credit_eq true true 2)) $$ [Hk2 Hd2 Hout HO]
  · isplitr; · iexact HR
    isplitl [Hk2 Hd2]; · unfold due; isplitl [Hd2] <;> iassumption
    isplitl [Hout] <;> iassumption
  iintro ⟨D2, Hzx2, Hout, HO⟩
  iapply (step_total m ρ K c 3 (fun u v => k0_pay19 u v) rfl (dsem (true, true, 3)) rfl (Function.update (Function.update (Function.update (half m ρ c) 0 (full m ρ c 0)) 1 (full m ρ c 1)) 2 (full m ρ c 2)) rfl (dst := chk (buf true true) 3) (credit_eq true true 3)) $$ [Hk3 Hd3 Hout HO]
  · isplitr; · iexact HR
    isplitl [Hk3 Hd3]; · unfold due; isplitl [Hd3] <;> iassumption
    isplitl [Hout] <;> iassumption
  iintro ⟨D3, Hzx3, Hout, HO⟩
  ihave Hout := (show outs c (Function.update (Function.update (Function.update (Function.update (half m ρ c) 0 (full m ρ c 0)) 1 (full m ρ c 1)) 2 (full m ρ c 2)) 3 (full m ρ c 3)) ⊢ outs c (full m ρ c) from
    Entails.of_eq (congrArg (outs c) (funext fun i => by fin_cases i <;> rfl))) $$ Hout
  ihave Ho := (outs_full m ρ c) $$ Hout
  -- the ends at the senders
  iapply (step_back m ρ K c false 0 (dsem (false, false, 0)) rfl (dst := chk (buf false false) 0) (credit_eq false false 0)) $$ [Hs0 HO]
  · isplitr; · iexact HR
    isplitl [Hs0] <;> iassumption
  iintro ⟨A0, Hzs0, HO⟩
  iapply (step_back m ρ K c false 1 (dsem (false, false, 1)) rfl (dst := chk (buf false false) 1) (credit_eq false false 1)) $$ [Hs1 HO]
  · isplitr; · iexact HR
    isplitl [Hs1] <;> iassumption
  iintro ⟨A1, Hzs1, HO⟩
  iapply (step_back m ρ K c false 2 (dsem (false, false, 2)) rfl (dst := chk (buf false false) 2) (credit_eq false false 2)) $$ [Hs2 HO]
  · isplitr; · iexact HR
    isplitl [Hs2] <;> iassumption
  iintro ⟨A2, Hzs2, HO⟩
  iapply (step_back m ρ K c false 3 (dsem (false, false, 3)) rfl (dst := chk (buf false false) 3) (credit_eq false false 3)) $$ [Hs3 HO]
  · isplitr; · iexact HR
    isplitl [Hs3] <;> iassumption
  iintro ⟨A3, Hzs3, HO⟩
  iapply (step_back m ρ K c true 0 (dsem (true, false, 0)) rfl (dst := chk (buf true false) 0) (credit_eq true false 0)) $$ [Hx0 HO]
  · isplitr; · iexact HR
    isplitl [Hx0] <;> iassumption
  iintro ⟨C0, Hzt0, HO⟩
  iapply (step_back m ρ K c true 1 (dsem (true, false, 1)) rfl (dst := chk (buf true false) 1) (credit_eq true false 1)) $$ [Hx1 HO]
  · isplitr; · iexact HR
    isplitl [Hx1] <;> iassumption
  iintro ⟨C1, Hzt1, HO⟩
  iapply (step_back m ρ K c true 2 (dsem (true, false, 2)) rfl (dst := chk (buf true false) 2) (credit_eq true false 2)) $$ [Hx2 HO]
  · isplitr; · iexact HR
    isplitl [Hx2] <;> iassumption
  iintro ⟨C2, Hzt2, HO⟩
  iapply (step_back m ρ K c true 3 (dsem (true, false, 3)) rfl (dst := chk (buf true false) 3) (credit_eq true false 3)) $$ [Hx3 HO]
  · isplitr; · iexact HR
    isplitl [Hx3] <;> iassumption
  iintro ⟨C3, Hzt3, HO⟩
  unfold run; rw [wp_ret]; imodintro
  iapply Hret
  unfold bodyPost Φ₁ zeros chunks debts
  rw [bigSep_cells, bigSep_xf, bigSep_xf]
  icases HO with ⟨%W', HO⟩
  isplitl [Hzs0 Hzs1 Hzs2 Hzs3 Hzr0 Hzr1 Hzr2 Hzr3 Hzt0 Hzt1 Hzt2 Hzt3 Hzx0 Hzx1 Hzx2 Hzx3 Hzb A0 A1 A2 A3 B0 B1 B2 B3 C0 C1 C2 C3 D0 D1 D2 D3]
  · isplitl [Hzs0 Hzs1 Hzs2 Hzs3 Hzr0 Hzr1 Hzr2 Hzr3 Hzt0 Hzt1 Hzt2 Hzt3 Hzx0 Hzx1 Hzx2 Hzx3 Hzb]
    · isplitl [Hzb]; · iexact Hzb
      isplitl [Hzs0 Hzs1 Hzs2 Hzs3]
      · isplitl [Hzs0]; · iexact Hzs0
        isplitl [Hzs1]; · iexact Hzs1
        isplitl [Hzs2]; · iexact Hzs2
        iexact Hzs3
      isplitl [Hzr0 Hzr1 Hzr2 Hzr3]
      · isplitl [Hzr0]; · iexact Hzr0
        isplitl [Hzr1]; · iexact Hzr1
        isplitl [Hzr2]; · iexact Hzr2
        iexact Hzr3
      isplitl [Hzt0 Hzt1 Hzt2 Hzt3]
      · isplitl [Hzt0]; · iexact Hzt0
        isplitl [Hzt1]; · iexact Hzt1
        isplitl [Hzt2]; · iexact Hzt2
        iexact Hzt3
      isplitl [Hzx0]; · iexact Hzx0
      isplitl [Hzx1]; · iexact Hzx1
      isplitl [Hzx2]; · iexact Hzx2
      iexact Hzx3
    · isplitl [A0 A1 A2 A3]
      · isplitl [A0]; · iexact A0
        isplitl [A1]; · iexact A1
        isplitl [A2]; · iexact A2
        iexact A3
      isplitl [B0 B1 B2 B3]
      · isplitl [B0]; · iexact B0
        isplitl [B1]; · iexact B1
        isplitl [B2]; · iexact B2
        iexact B3
      isplitl [C0 C1 C2 C3]
      · isplitl [C0]; · iexact C0
        isplitl [C1]; · iexact C1
        isplitl [C2]; · iexact C2
        iexact C3
      isplitl [D0]; · iexact D0
      isplitl [D1]; · iexact D1
      isplitl [D2]; · iexact D2
      iexact D3
  isplitl [HO]
  · unfold Dat.owesAt Pipeline.owesWithin
    iexists W'
    isplitr; · ipureintro; exact fun _ _ => Or.inl trivial
    iexact HO
  isplitl [Hp]; · iexists _; isplitr; · ipureintro; rfl
                  iexact Hp
  isplitl [Hy]; · iexists _; isplitr; · ipureintro; rfl
                  iexact Hy
  iexists _
  isplitr; · ipureintro; rfl
  iexact Ho

end Body

end Cert.KernelIdeal.Combine

end
-- ==== Proof.KernelIdealLaunch.lean ====
/-
The combining call of v07: the pipeline's obligation, the ghost state, the launch, and the run of the whole mesh.
-/
module

public import proofs.«01_k».proof.Proof.KernelIdealSound
public import Idealize.ShloMosaic.Lib.Pipeline.CollectiveSegs
public import Idealize.ShloMosaic.Lib.Quiescent

@[expose] public section

noncomputable section

namespace Cert.KernelIdeal.Combine

open Cert.KernelIdeal Cert.KernelIdeal.Gen Cert.Owing

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's obligation -/

/-- The body's obligation: from the state before the one iteration to the state after it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show iprop(Φ₀ m ρ c ∗ (dats m ρ 0 c).owesAt () t₀.castSucc
      ∗ (∃ d, stg c cc0_stg0_0 ((dats m ρ 0 c).before (0 : Fin 3) t₀ d))
      ∗ (∃ d, stg c cc0_stg1_0 ((dats m ρ 0 c).before (1 : Fin 3) t₀ d))
      ∗ (∃ d, stg c cc0_stg2_0 ((dats m ρ 0 c).before (2 : Fin 3) t₀ d)))
    ⊢ run c (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5 cc0_scratch6 cc0_scratch7) (fun _ => bodyPost m ρ c)
  unfold Φ₀ start
  iintro ⟨⟨⟨⟨%K, HR, Hl⟩, Hf, Hlev⟩, Hch⟩, Hrest⟩
  iapply (sound_body m ρ K c fun _ => bodyPost m ρ c)
  unfold bodyPre
  isplitr []
  · isplitl [HR Hl Hf Hlev Hch]
    · isplitl [HR]; · iexact HR
      isplitl [Hlev]; · iexact Hlev
      isplitl [Hl]; · iexact Hl
      isplitl [Hf] <;> iassumption
    iexact Hrest
  · iintro H; iexact H

/-! ## The ghost state -/

abbrev osem : Xf → SemLoc sig := fun k => .dma (dsem k)
theorem ownSemFacts : Pipeline.OwnSemFacts cfg0.spec osem := by decide
theorem share_eq (c : Dev nD) (w : Fin cfg0.W) : (dats m ρ 0 c).share w = fullShare := by unfold Dat.share; split <;> rfl

theorem csem_inj {k k' : Option Xf} (h : csem k = csem k') : k = k' := by
  cases k with
  | none => cases k' with
    | none => rfl
    | some k' => cases h
  | some k => cases k' with
    | none => cases h
    | some k' => exact congrArg some (dsem_inj (SemLoc.dma.inj h))
theorem kcell_injective : Function.Injective (kcell : Dev nD × Option Xf → GSem nD τ sig) := by
  rintro ⟨c, k⟩ ⟨c', k'⟩ h
  have h1 : c = c' := congrArg (fun g : GSem nD τ sig => g.1.1) h
  subst h1
  have h2 : k = k' := csem_inj (congrArg Prod.snd h)
  subst h2; rfl
def cells : Finset (GSem nD τ sig) := Finset.univ.map ⟨kcell, kcell_injective⟩

/-- Every cell's two duty tokens. -/
abbrev tokOf (x : Dev nD × Option Xf × Bool) : GSem nD τ sig × ℕ × Bool := (kcell (x.1, x.2.1), 0, x.2.2)
theorem tokOf_injective : Function.Injective (tokOf : Dev nD × Option Xf × Bool → GSem nD τ sig × ℕ × Bool) := by
  rintro ⟨c, k, d⟩ ⟨c', k', d'⟩ h
  have h1 := kcell_injective (a₁ := (c, k)) (a₂ := (c', k')) (congrArg Prod.fst h)
  have h2 : d = d' := congrArg (fun x : GSem nD τ sig × ℕ × Bool => x.2.2) h
  cases h1; subst h2; rfl
def mintToks : Finset (GSem nD τ sig × ℕ × Bool) := Finset.univ.map ⟨tokOf, tokOf_injective⟩

def u₀ : UU := (initOf (Pipeline.cells cfgs cellOf_inj) (Pipeline.launchToks cfgs cellOf_inj), initOf cells mintToks)

def toks (c : Dev nD) : sProp 𝕄 := bigSep Finset.univ fun k : Option Xf => bigSep Finset.univ fun d : Bool => dutyTok ER (kcell (c, k)) 0 d
def G (c : Dev nD) : sProp 𝕄 :=
  iprop((bigSep Finset.univ fun k : Option Xf => roundState ER (Rd m ρ) (kcell (c, k)) 0)
    ∗ (bigSep Finset.univ fun k : Option Xf => iprop(atPos ER (kcell (c, k)) 0 ∅ 0 ∗ reached ER (kcell (c, k)) 0)) ∗ toks c)
def G' (c : Dev nD) : sProp 𝕄 := iprop(∃ K, records m ρ K ∗ linear c)

/-- The cells' state and tokens are minted at the start. -/
theorem fund_ring : BI.own (ER (initOf cells mintToks)) ⊢ (|==> bigSep Finset.univ (G m ρ) : sProp 𝕄) := by
  have hX (Φ : GSem nD τ sig → sProp 𝕄) : bigSep cells Φ = bigSep Finset.univ fun c : Dev nD => bigSep Finset.univ fun k : Option Xf => Φ (kcell (c, k)) := by
    unfold cells; rw [bigSep_map, bigSep_univ_prod]; rfl
  have hT : bigSep mintToks (fun x => (dutyTok ER x.1 x.2.1 x.2.2 : sProp 𝕄)) = bigSep Finset.univ fun c : Dev nD => toks c := by
    unfold mintToks; rw [bigSep_map, bigSep_univ_prod]
    exact bigSep_congr fun c _ => by unfold toks; rw [bigSep_univ_prod]; rfl
  iintro HX
  imod (Rounds.fund ER (Rd m ρ) cells mintToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Xf => semVal (kcell (c, some k)) 0 := rfl
omit [FloatOps F] in
theorem unscopedSems0_eq (c : Dev nD) : (unscopedSems0 c : sProp 𝕄) = semVal (bcell c) 0 := by
  unfold unscopedSems0; rw [bigSep_eq_bigSepL_of_eq [SemLoc.reg barS] (by decide) (by decide)]; rfl
omit [FloatOps F] in
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  unfold zeros; rw [bigSep_cells, unscopedSems0_eq, ownSems0_eq]

/-- A device's semaphores become cells under invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (zeros_eq (F := F) c).symm) $$ [Hos Hus]
  · isplitl [Hus] <;> iassumption
  imod (show iprop(zeros c ∗ bigSep Finset.univ fun k : Option Xf => roundState ER (Rd m ρ) (kcell (c, k)) 0)
      ⊢ (|={Set.univ}=> bigSep Finset.univ fun k => iprop(∃ κ : ℕ, cellInv ER (Rd m ρ) κ (kcell (c, k))) : sProp 𝕄) from by
        unfold zeros
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt out -/

/-- A completion is a leg's chunk and a direction. -/
def legEquiv : Leg × Bool ≃ Xf := ⟨fun x => (x.1.1, x.2, x.1.2), fun k => ((k.1, k.2.2), k.2.1), fun _ => rfl, fun _ => rfl⟩
omit [FloatOps F] in
theorem bigSep_legs (Φ : Xf → sProp 𝕄) : bigSep Finset.univ Φ = bigSep Finset.univ fun a : Leg => iprop(Φ (a.1, false, a.2) ∗ Φ (a.1, true, a.2)) := by
  have h2 (Ψ : Bool → sProp 𝕄) : bigSep Finset.univ Ψ = iprop(Ψ false ∗ Ψ true) := bigSep_univ_eq_bigSepL [false, true] (by decide) (by decide) Ψ
  rw [bigSep_univ_equiv legEquiv, bigSep_univ_prod]
  exact bigSep_congr fun a _ => h2 _

/-- The peers, for every leg's chunk at once. -/
def dealEquiv : Dev nD × Leg ≃ Dev nD × Leg :=
  ⟨fun x => (peer x.2.1 x.1, x.2), fun x => (peer x.2.1 x.1, x.2), fun x => Prod.ext (peer_peer _ _) rfl, fun x => Prod.ext (peer_peer _ _) rfl⟩

def payToks (c : Dev nD) : sProp 𝕄 :=
  iprop(dutyTok ER (bcell (peer false c)) 0 false ∗ dutyTok ER (bcell (peer true c)) 0 true
    ∗ (bigSep Finset.univ fun a : Leg => dutyTok ER (xcell c (a.1, false, a.2)) 0 false)
    ∗ bigSep Finset.univ fun a : Leg => dutyTok ER (xcell (peer a.1 c) (a.1, true, a.2)) 0 false)

omit [FloatOps F] in
theorem toks_pick (c : Dev nD) : (toks c : sProp 𝕄)
    ⊢ iprop(dutyTok ER (bcell c) 0 false ∗ dutyTok ER (bcell c) 0 true
      ∗ (bigSep Finset.univ fun a : Leg => dutyTok ER (xcell c (a.1, false, a.2)) 0 false)
      ∗ bigSep Finset.univ fun a : Leg => dutyTok ER (xcell c (a.1, true, a.2)) 0 false) := by
  have h2 (Ψ : Bool → sProp 𝕄) : bigSep Finset.univ Ψ = iprop(Ψ false ∗ Ψ true) := bigSep_univ_eq_bigSepL [false, true] (by decide) (by decide) Ψ
  unfold toks
  rw [bigSep_cells, h2, bigSep_legs]
  simp only [h2, bigSep_sep']
  iintro ⟨⟨H1, H2⟩, ⟨H3, -⟩, ⟨H4, -⟩⟩
  isplitl [H1]; · iexact H1
  isplitl [H2]; · iexact H2
  isplitl [H3] <;> iassumption

omit [FloatOps F] in
theorem deal_eq : (bigSep Finset.univ fun c : Dev nD => (iprop(dutyTok ER (bcell c) 0 false ∗ dutyTok ER (bcell c) 0 true
      ∗ (bigSep Finset.univ fun a : Leg => dutyTok ER (xcell c (a.1, false, a.2)) 0 false)
      ∗ bigSep Finset.univ fun a : Leg => dutyTok ER (xcell c (a.1, true, a.2)) 0 false) : sProp 𝕄)) = bigSep Finset.univ fun c : Dev nD => payToks c := by
  unfold payToks
  rw [bigSep_sep', bigSep_sep', bigSep_sep', bigSep_sep', bigSep_sep', bigSep_sep',
    bigSep_univ_equiv (swap false) (fun c : Dev nD => (dutyTok ER (bcell c) 0 false : sProp 𝕄)),
    bigSep_univ_equiv (swap true) (fun c : Dev nD => (dutyTok ER (bcell c) 0 true : sProp 𝕄)),
    ← bigSep_univ_prod (fun x : Dev nD × Leg => (dutyTok ER (xcell x.1 (x.2.1, true, x.2.2)) 0 false : sProp 𝕄)),
    bigSep_univ_equiv dealEquiv (fun x : Dev nD × Leg => (dutyTok ER (xcell x.1 (x.2.1, true, x.2.2)) 0 false : sProp 𝕄)), bigSep_univ_prod]
  rfl

omit [FloatOps F] in
theorem toks_around : (bigSep Finset.univ fun c : Dev nD => (toks c : sProp 𝕄)) ⊢ bigSep Finset.univ fun c : Dev nD => payToks c := by
  rw [← deal_eq]
  exact bigSep_mono fun c _ => toks_pick (F := F) c

omit [FloatOps F] in
theorem linear_intro (c : Dev nD) : iprop((bigSep Finset.univ fun k : Option Xf => atPos ER (kcell (c, k)) 0 ∅ 0) ∗ payToks c) ⊢ (linear c : sProp 𝕄) := by
  unfold linear payToks barGear gear
  rw [bigSep_cells, bigSep_legs, bigSep_sep', bigSep_sep', bigSep_sep']
  iintro ⟨⟨Hb, Hs, Hr⟩, H1, H2, H3, H4⟩
  isplitl [Hb H1 H2]
  · isplitl [H1]; · iexact H1
    isplitl [H2] <;> iassumption
  isplitr [Hr]
  · isplitl [H3]; · iexact H3
    isplitl [H4] <;> iassumption
  iexact Hr

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option Xf => iprop(∃ κ : ℕ, cellInv ER (Rd m ρ) κ (kcell ck))),
    bigSep_congr (s := Finset.univ) (fun (c : Dev nD) _ => bigSep_sep' Finset.univ (fun k : Option Xf => (atPos ER (kcell (c, k)) 0 ∅ 0 : sProp 𝕄)) (fun k => reached ER (kcell (c, k)) 0)),
    bigSep_sep', ← bigSep_univ_prod (fun ck : Dev nD × Option Xf => (reached ER (kcell ck) 0 : sProp 𝕄))]
  iintro ⟨HI, ⟨Hat, #HR⟩, Htok⟩
  ihave HK := (BI.bigSep_exists_pi Finset.univ (fun (ck : Dev nD × Option Xf) (κ : ℕ) => (cellInv ER (Rd m ρ) κ (kcell ck) : sProp 𝕄))) $$ HI
  icases HK with ⟨%K, #HI⟩
  ihave Htk := (toks_around (F := F)) $$ Htok
  iapply (Cert.Owing.bigSep_with_persistent (R := records m ρ K) (Φ := linear) (Ψ := G' m ρ) fun c _ => show iprop(records m ρ K ∗ linear c) ⊢ G' m ρ c from by
    unfold G'; iintro H; iexists K; iexact H)
  isplitr
  · unfold records; isplitl; · iexact HI
    iexact HR
  · iapply ((Entails.of_eq (bigSep_sep' Finset.univ (fun c : Dev nD => bigSep Finset.univ fun k : Option Xf => (atPos ER (kcell (c, k)) 0 ∅ 0 : sProp 𝕄)) payToks).symm).trans
      (bigSep_mono fun c _ => linear_intro (F := F) c))
    isplitl [Hat]; · iexact Hat
    iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What every device owes at the start. -/
def O₀ (c : Dev nD) : CellTallies nD τ sig Unit := owe (plan c)

theorem kcell_eq_iff (a b : Dev nD) (k k' : Option Xf) : Iff (kcell (a, k) = kcell (b, k')) (a = b ∧ k = k') :=
  ⟨fun h => Prod.mk.inj (kcell_injective h), fun h => by rw [h.1, h.2]⟩
theorem eq_peer_iff (l : Bool) (a b : Dev nD) : Iff (a = peer l b) (b = peer l a) :=
  ⟨fun h => by rw [h, peer_peer], fun h => by rw [h, peer_peer]⟩

theorem owed_bar (d c : Dev nD) : O₀ d (bcell c) () = (if d = peer false c then 1 else 0) + (if d = peer true c then 1 else 0) := by
  unfold O₀
  rw [owe_apply]
  simp [plan, planYX, planX, debtBar, debtXf, kcell_eq_iff, eq_peer_iff _ c d]
theorem owed_land (d c : Dev nD) (l : Bool) (i : Fin 4) : O₀ d (xcell c (l, true, i)) () = if d = peer l c then N else 0 := by
  unfold O₀
  rw [owe_apply]
  cases l <;> fin_cases i <;> simp [plan, planYX, planX, debtBar, debtXf, kcell_eq_iff, eq_peer_iff _ c d]

theorem launch_bar (c : Dev nD) :
    tallyOn (bcell c) (launchCredit (Pipeline.owing O₀) 0 (bcell c)) = (tallyAt (bcell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (peer false c) fun _ => 1, Finset.sum_ite_eq' Finset.univ (peer true c) fun _ => 1, if_pos (Finset.mem_univ _), if_pos (Finset.mem_univ _)]
theorem launch_land (c : Dev nD) (l : Bool) (i : Fin 4) :
    tallyOn (xcell c (l, true, i)) (launchCredit (Pipeline.owing O₀) 0 (xcell c (l, true, i))) = (tallyAt (xcell c (l, true, i)) () N : CellTallies nD τ sig Unit) := by
  unfold tallyAt; refine congrArg _ (Finsupp.ext fun u => ?_); cases u
  rw [Pipeline.launchCredit_owing, Finsupp.single_eq_same, Finset.sum_congr rfl fun d _ => owed_land d c l i, Finset.sum_ite_eq' Finset.univ (peer l c) fun _ => N,
    if_pos (Finset.mem_univ _)]

theorem landSem_inj : Function.Injective (fun a : Leg => (csem (some (a.1, true, a.2)) : SemLoc sig)) := by
  rintro ⟨l, i⟩ ⟨l', i'⟩ h
  have h1 := csem_inj h
  cases h1; rfl

omit [FloatOps F] in
theorem creds (c : Dev nD) : (Pipeline.launchCred O₀ c : sProp 𝕄) ⊢ funds c := by
  unfold Pipeline.launchCred funds
  rw [bigSep_univ_at _ (SemLoc.reg barS), launch_bar]
  refine sep_mono_right ?_
  refine (bigSep_subset (t := Finset.univ.map ⟨_, landSem_inj⟩) ?_).trans ?_
  · intro s hs
    obtain ⟨a, -, rfl⟩ := Finset.mem_map.mp hs
    exact Finset.mem_erase.mpr ⟨(fun h => by cases h), Finset.mem_univ _⟩
  · rw [bigSep_map]
    exact bigSep_mono fun a _ => Entails.of_eq (congrArg cred (launch_land c a.1 a.2))

/-! ### The buffers cut into chunks -/

omit [FloatOps F] in
theorem chunks_eq (c : Dev nD) : (chunks c : sProp 𝕄) = iprop(((bigSep Finset.univ fun i => own false false i c) ∗ (bigSep Finset.univ fun i => own false true i c))
    ∗ ((bigSep Finset.univ fun i => own true false i c) ∗ (bigSep Finset.univ fun i => own true true i c))) := by
  have h2 (Ψ : Bool → sProp 𝕄) : bigSep Finset.univ Ψ = iprop(Ψ false ∗ Ψ true) := bigSep_univ_eq_bigSepL [false, true] (by decide) (by decide) Ψ
  unfold chunks
  rw [bigSep_univ_prod, h2, bigSep_univ_prod, bigSep_univ_prod, h2, h2]

theorem rct_disjoint (i j : Fin 4) (h : i ≠ j) : Disjoint (rct i).set (rct j).set :=
  Ring.lead_disjoint (s := S4x256x1024) (0 : Fin 3) 1 (fun i : Fin 4 => ![i.val, 0, 0]) S1x256x1024.size rct_inb (fun i => (Nat.one_mul _).symm) rfl i j h
theorem rct_cover : Finset.univ.biUnion (fun i : Fin 4 => (rct i).set) = Finset.univ :=
  Ring.lead_cover (s := S4x256x1024) (0 : Fin 3) 1 (fun i : Fin 4 => ![i.val, 0, 0]) S1x256x1024.size rct_inb (fun i => (Nat.one_mul _).symm)
    (fun i a ha => by fin_cases a <;> first | rfl | exact absurd rfl ha) rfl (fun a ha => by fin_cases a <;> first | rfl | exact absurd rfl ha) rfl

theorem chk_disjoint (l d : Bool) (i j : Fin 4) (h : i ≠ j) : Disjoint (chk (buf l d) i).view.set (chk (buf l d) j).view.set := by
  rw [← chk_set, ← chk_set, View.set_slice, View.set_slice]
  exact (Finset.disjoint_map _).mpr (rct_disjoint i j h)
theorem rct_exists (x : S4x256x1024.Idx) : ∃ i, x ∈ (rct i).set := by
  obtain ⟨i, _, hi⟩ := Finset.mem_biUnion.mp ((Finset.ext_iff.mp rct_cover x).mpr (Finset.mem_univ x))
  exact ⟨i, hi⟩
theorem mem_chk (b : Memref sig .tc .vmem S4x256x1024 .bf16) (i : Fin 4) (x : S4x256x1024.Idx) (hx : x ∈ (rct i).set) : b.view.emb x ∈ (chk b i).view.set := by
  rw [← chk_set, View.set_slice]
  exact Finset.mem_map_of_mem _ hx
theorem chk_cover (l d : Bool) (c : Dev nD) : Finset.biUnion (β := Idx ((buf l d).view.loc (c : Thread nD τ))) Finset.univ (fun i : Fin 4 => (chk (buf l d) i).view.set) = Finset.univ := by
  ext x
  simp only [Finset.mem_biUnion, Finset.mem_univ, true_and, iff_true]
  cases l <;> cases d
  all_goals
    obtain ⟨i, hi⟩ := rct_exists x
    exact ⟨i, mem_chk _ i x hi⟩

omit [FloatOps F] in
theorem cut (l d : Bool) (c : Dev nD) : iprop(∃ f : Buf (Elt F) ((buf l d).view.loc (c : Thread nD τ)), ((buf l d).view.loc (c : Thread nD τ)) ↦{fullShare} f)
    ⊢ (bigSep Finset.univ fun i => own l d i c : sProp 𝕄) := by
  iintro ⟨%f, H⟩
  iapply ((Entails.of_eq (Ring.pointsTo_blocks (fun i : Fin 4 => (chk (buf l d) i).view.set) (chk_disjoint l d) (chk_cover l d c) f)).trans
    (bigSep_mono fun i _ => show _ ⊢ own l d i c from by unfold own pts; iintro H; iexists f; iexact H))
  iexact H
omit [FloatOps F] in
theorem paste (l d : Bool) (c : Dev nD) (f₀ : Buf (Elt F) ((buf l d).view.loc (c : Thread nD τ))) : (bigSep Finset.univ fun i : Fin 4 => own l d i c : sProp 𝕄)
    ⊢ iprop(∃ f : Buf (Elt F) ((buf l d).view.loc (c : Thread nD τ)), ((buf l d).view.loc (c : Thread nD τ)) ↦{fullShare} f) := by
  iintro H
  iapply (Ring.pointsTo_blocks_join_exists (ℓ := (buf l d).view.loc (c : Thread nD τ)) (q := fullShare)
    (fun i : Fin 4 => (chk (buf l d) i).view.set) (chk_disjoint l d) (chk_cover l d c) f₀)
  iapply (show (bigSep Finset.univ fun i : Fin 4 => own l d i c : sProp 𝕄)
      ⊢ bigSep Finset.univ fun i : Fin 4 => iprop(∃ f : Buf (Elt F) ((buf l d).view.loc (c : Thread nD τ)), ((buf l d).view.loc (c : Thread nD τ)) ↦[(chk (buf l d) i).view.set]{fullShare} f)
    from bigSep_mono fun i _ => show own l d i c ⊢ iprop(∃ f : Buf (Elt F) ((buf l d).view.loc (c : Thread nD τ)), ((buf l d).view.loc (c : Thread nD τ)) ↦[(chk (buf l d) i).view.set]{fullShare} f) from by unfold own pts; iintro H; iexact H)
  iexact H

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  rw [chunks_eq]
  iintro ⟨Hs, -, H0, H1, H2, H3⟩
  isplitl [Hs]; · iexact Hs
  isplitl [H0 H1]
  · isplitl [H0]; · iapply (cut false false c); iexact H0
    iapply (cut false true c); iexact H1
  · isplitl [H2]; · iapply (cut true false c); iexact H2
    iapply (cut true true c); iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [zeros_eq, chunks_eq]
  iintro ⟨⟨HzB, Hz⟩, ⟨H0, H1⟩, H2, H3⟩
  isplitl [HzB]; · iexact HzB
  isplitl [Hz]; · iexact Hz
  isplitl [H0]; · iapply (paste false false c (m _)); iexact H0
  isplitl [H1]; · iapply (paste false true c (m _)); iexact H1
  isplitl [H2]; · iapply (paste true false c (m _)); iexact H2
  iapply (paste true true c (m _)); iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every weakly fair run of the four devices ends, each array of the call
    holding the contents computed, and every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Combine

end
-- ==== Proof.KernelIdealFrame.lean ====
/-
The arrays after the combining call: the arguments as they were, the result what the body left in its staging buffer; and the
run with the values dropped.
-/
module

public import proofs.«01_k».proof.Proof.KernelIdealLaunch

@[expose] public section

noncomputable section

namespace Cert.KernelIdeal.Combine

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

set_option maxRecDepth 20000 in
omit [FloatOps F] in
/-- The staged block of `p` is the device's whole block. -/
theorem pst_eq (c : Dev nD) : pst m ρ c = m ((c : Thread nD τ).loc main_arg0) := by
  funext i
  show m ((c : Thread nD τ).loc main_arg0) _ = m ((c : Thread nD τ).loc main_arg0) i
  congr 1
  funext a
  apply Fin.ext
  match a with
  | ⟨0, _⟩ => show 0 + 1 * (i 0).val = (i 0).val; omega
  | ⟨1, _⟩ => show 0 + 1 * (i 1).val = (i 1).val; omega

set_option maxRecDepth 20000 in
omit [FloatOps F] in
/-- The staged block of the expert outputs is the device's whole block. -/
theorem yst_eq (c : Dev nD) : yst m ρ c = m ((c : Thread nD τ).loc main_arg1) := by
  funext i
  show m ((c : Thread nD τ).loc main_arg1) _ = m ((c : Thread nD τ).loc main_arg1) i
  congr 1
  funext a
  apply Fin.ext
  match a with
  | ⟨0, _⟩ => show 0 + 1 * (i 0).val = (i 0).val; omega
  | ⟨1, _⟩ => show 0 + 1 * (i 1).val = (i 1).val; omega

/-- The result array, whole, is what the body left in its staging buffer. -/
theorem finalA_out (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  rw [← h]
  funext i
  show finalA m ρ c (2 : Fin 3) i = finalA m ρ c (2 : Fin 3) _
  congr 1
  funext a
  apply Fin.ext
  match a with
  | ⟨0, _⟩ => show (i 0).val = 0 + 1 * (i 0).val; omega
  | ⟨1, _⟩ => show (i 1).val = 0 + 1 * (i 1).val; omega

/-- The argument arrays are as they were. -/
theorem finalA_p (c : Dev nD) : finalA m ρ c (0 : Fin 3) = m ((c : Thread nD τ).loc main_arg0) :=
  (dats (F := F) m ρ 0 c).arrAt_in (0 : Fin 3) rfl _
theorem finalA_y (c : Dev nD) : finalA m ρ c (1 : Fin 3) = m ((c : Thread nD τ).loc main_arg1) :=
  (dats (F := F) m ρ 0 c).arrAt_in (1 : Fin 3) rfl _

/-- The run with the values dropped: the arguments unchanged, every semaphore back at zero. -/
theorem run_frame : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun _ h => ⟨fun c => ⟨(h.1 c 0).trans (finalA_p m ρ c), (h.1 c 1).trans (finalA_y m ρ c)⟩, h.2⟩) (run_main m ρ)

end Cert.KernelIdeal.Combine

end
-- ==== Proof.KernelIdealValue.lean ====
/-
What the combining call computes, in exact arithmetic: every device's result is its half of the rows of the whole product.

The product over the 10240 slots is a sum of four partial products, one a device (the slots cut in four runs of 2560). Device
`c` adds its own partial product to the y peer's, and to that the sum the x peer made of its own and its y peer's.
-/
module

public import proofs.«01_k».proof.Proof.KernelIdealFrame
public import proofs.«01_k».proof.Proof.Gen.ReferenceIdeal.Run
public import Idealize.ShloMosaic.Lib.Pointwise
public import Idealize.ShloMosaic.Lib.Layout
public import proofs.«01_k».proof.Defs

@[expose] public section

noncomputable section

namespace Cert.KernelIdeal.Combine

open Cert.KernelIdeal Cert.KernelIdeal.Gen
open Idealize.ShloMosaic Idealize.ShloMosaic.TcCoe Idealize.SL.Sem
open Idealize.ShloMosaic.Pipeline (Dat Cfg Window)

/-! ## In exact arithmetic -/

section exact

variable (m : (ℓ : Loc nD τ sig) → Buf (Elt Ideal) ℓ) (ρ : Dev nD → PrngReg)

/-- Device `c`'s blocks of the two arguments. -/
abbrev pA (c : Dev nD) : S2048x2560.Idx → EReal := m ((c : Thread nD τ).loc main_arg0)
abbrev yA (c : Dev nD) : S2560x1024.Idx → EReal := m ((c : Thread nD τ).loc main_arg1)

/-- Device `c`'s partial product at row `R` and column `k`: the sum over its own 2560 slots. -/
def part (c : Dev nD) (R : Fin 2048) (k : Fin 1024) : EReal :=
  ∑ s : Fin 2560, pA m c (ix2 R s)
    * yA m c (ix2 s k)

theorem yb_apply (c : Dev nD) (s : Fin 2560) (k : Fin 1024) :
    (yb m ρ c (ix2 s k) : EReal) = yA m c (ix2 s k) := by
  unfold yb
  rw [yst_eq]
  pointwise [k0_pay1]
  show yA m c _ = _
  congr 1
  funext a
  apply Fin.ext
  match a with
  | ⟨0, _⟩ => show 0 + 1 * s.val = s.val; omega
  | ⟨1, _⟩ => show 0 + 1 * k.val = k.val; omega

/-- The row of the whole where the kept half's chunk `i` has its row `r`. -/
def keptRow (c : Dev nD) (i : Fin 4) (r : Fin 256) : Fin 2048 := ⟨1024 * (c.val % 2) + 256 * i.val + r.val, by omega⟩

theorem keptRow_x (c : Dev nD) (i : Fin 4) (r : Fin 256) : keptRow (peer true c) i r = keptRow c i r := by
  have e : (peer true c).val % 2 = c.val % 2 := by revert c; decide
  apply Fin.ext
  show 1024 * ((peer true c).val % 2) + 256 * i.val + r.val = 1024 * (c.val % 2) + 256 * i.val + r.val
  omega

theorem keep_at (c : Dev nD) (i : Fin 4) (r : Fin 256) (s : Fin 2560) :
    (pM.view.readAt (Elt Ideal) (hR c i).toLoadRect (pst m ρ c) (ix2 r s) : EReal)
      = pA m c (ix2 (keptRow c i r) s) := by
  rw [pst_eq]
  show pA m c _ = _
  congr 1
  funext a
  apply Fin.ext
  match a with
  | ⟨0, _⟩ =>
    show k0_off2 c (BitVec.ofNat 32 (256 * i.val)) 0 + 1 * r.val = 1024 * (c.val % 2) + 256 * i.val + r.val
    rw [k0_off2_eq]; show 1024 * (c.val % 2) + 256 * i.val + 1 * r.val = _; omega
  | ⟨1, _⟩ =>
    show k0_off2 c (BitVec.ofNat 32 (256 * i.val)) 1 + 1 * s.val = s.val
    rw [k0_off2_eq]; show 0 + 1 * s.val = _; omega

/-- The rows sent along y are the rows the y peer keeps. -/
theorem send_at (c : Dev nD) (i : Fin 4) (r : Fin 256) (s : Fin 2560) :
    (pM.view.readAt (Elt Ideal) (gR c i).toLoadRect (pst m ρ c) (ix2 r s) : EReal)
      = pA m c (ix2 (keptRow (peer false c) i r) s) := by
  rw [pst_eq]
  show pA m c _ = _
  congr 1
  funext a
  apply Fin.ext
  have hy : (peer false c).val % 2 = 1 - c.val % 2 := by revert c; decide
  match a with
  | ⟨0, _⟩ =>
    show k0_off1 c (BitVec.ofNat 32 (256 * i.val)) 0 + 1 * r.val = 1024 * ((peer false c).val % 2) + 256 * i.val + r.val
    rw [k0_off1_eq, hy]; show 256 * i.val + 1024 - 1024 * (c.val % 2) + 1 * r.val = _; omega
  | ⟨1, _⟩ =>
    show k0_off1 c (BitVec.ofNat 32 (256 * i.val)) 1 + 1 * s.val = s.val
    rw [k0_off1_eq]; show 0 + 1 * s.val = _; omega

theorem mine_apply (c : Dev nD) (i : Fin 4) (r : Fin 256) (k : Fin 1024) :
    (mine m ρ c i (ix2 r k) : EReal) = part m c (keptRow c i r) k := by
  unfold mine part
  pointwise [k0_pay8]
  refine Finset.sum_congr rfl fun s _ => ?_
  exact congrArg₂ (· * ·) (keep_at m ρ c i r s) (yb_apply m ρ c s k)

theorem sentY_apply (c : Dev nD) (i : Fin 4) (r : Fin 256) (k : Fin 1024) :
    (sentY m ρ c i (ix3 0 r k) : EReal) = part m c (keptRow (peer false c) i r) k := by
  unfold sentY part
  pointwise [k0_pay4]
  refine Finset.sum_congr rfl fun s _ => ?_
  exact congrArg₂ (· * ·) (send_at m ρ c i r s) (yb_apply m ρ c s k)

theorem half_apply (c : Dev nD) (i : Fin 4) (r : Fin 256) (k : Fin 1024) :
    (half m ρ c i (ix2 r k) : EReal) = part m c (keptRow c i r) k + part m (peer false c) (keptRow c i r) k := by
  have h := sentY_apply m ρ (peer false c) i r k
  rw [peer_peer] at h
  rw [← mine_apply m ρ, ← h]
  unfold half
  pointwise [k0_pay9]

theorem sentX_apply (c : Dev nD) (i : Fin 4) (r : Fin 256) (k : Fin 1024) :
    (sentX m ρ c i (ix3 0 r k) : EReal) = part m c (keptRow c i r) k + part m (peer false c) (keptRow c i r) k := by
  rw [← half_apply m ρ]
  unfold sentX half
  pointwise [k0_pay10]

theorem full_apply (c : Dev nD) (i : Fin 4) (r : Fin 256) (k : Fin 1024) :
    (full m ρ c i (ix2 r k) : EReal) = (part m c (keptRow c i r) k + part m (peer false c) (keptRow c i r) k)
      + (part m (peer true c) (keptRow c i r) k + part m (peer false (peer true c)) (keptRow c i r) k) := by
  have h := sentX_apply m ρ (peer true c) i r k
  rw [keptRow_x] at h
  rw [← half_apply m ρ c, ← h]
  unfold full
  pointwise [k0_pay19]

/-- The run of 2560 slots device `c` holds. -/
def run4 (c : Dev nD) : Fin 4 := ⟨2 * (c.val % 2) + c.val / 2, by have h : c.val < 4 := c.isLt; omega⟩

/-- Slot `s` of run `b` among all 10240. -/
def slot (b : Fin 4) (s : Fin 2560) : Fin 10240 := ⟨b.val * 2560 + s.val, by omega⟩

/-- A sum over the four runs is a device's own, its y peer's, and its x peer's two. -/
theorem sum_runs (g : Fin 4 → EReal) (c : Dev nD) :
    ∑ b, g b = (g (run4 c) + g (run4 (peer false c))) + (g (run4 (peer true c)) + g (run4 (peer false (peer true c)))) := by
  rw [Fin.sum_univ_four]
  have h : ∀ c : Dev nD, c = 0 ∨ c = 1 ∨ c = 2 ∨ c = 3 := by decide
  rcases h c with rfl | rfl | rfl | rfl
  · rw [show run4 0 = 0 from by decide, show run4 (peer false 0) = 2 from by decide, show run4 (peer true 0) = 1 from by decide,
      show run4 (peer false (peer true 0)) = 3 from by decide]; abel
  · rw [show run4 1 = 2 from by decide, show run4 (peer false 1) = 0 from by decide, show run4 (peer true 1) = 3 from by decide,
      show run4 (peer false (peer true 1)) = 1 from by decide]; abel
  · rw [show run4 2 = 1 from by decide, show run4 (peer false 2) = 3 from by decide, show run4 (peer true 2) = 0 from by decide,
      show run4 (peer false (peer true 2)) = 2 from by decide]; abel
  · rw [show run4 3 = 3 from by decide, show run4 (peer false 3) = 1 from by decide, show run4 (peer true 3) = 2 from by decide,
      show run4 (peer false (peer true 3)) = 0 from by decide]; abel

variable (P : Cert.ReferenceIdeal.S2048x10240.Idx → EReal) (Y : Cert.ReferenceIdeal.S10240x1024.Idx → EReal)

/-- A row of the whole product at a column, on extended reals: the sum over all 10240 slots. -/
def whole (R : Fin 2048) (k : Fin 1024) : EReal := ∑ s : Fin 10240, P (ix2 R s) * Y (ix2 s k)

variable (hP : ∀ c, pA m c = Layout.blockN ⟨2, ![2048, 2560]⟩ ⟨2, ![2048, 10240]⟩ (Layout.meshBlock [2, 2] ![[], [1, 0]] c) P)
variable (hY : ∀ c, yA m c = Layout.blockN ⟨2, ![2560, 1024]⟩ ⟨2, ![10240, 1024]⟩ (Layout.meshBlock [2, 2] ![[1, 0], []] c) Y)

include hP in
theorem pA_apply (c : Dev nD) (R : Fin 2048) (s : Fin 2560) : pA m c (ix2 R s) = P (ix2 R (slot (run4 c) s)) := by
  rw [hP c, Layout.blockN_apply]
  congr 1
  funext a
  apply Fin.ext
  rw [Layout.TilesN.idx_val]
  match a with
  | ⟨0, _⟩ => show 0 * 2048 + R.val = R.val; omega
  | ⟨1, _⟩ =>
    show Layout.meshLin [2, 2] c.val [1, 0] * 2560 + s.val = (2 * (c.val % 2) + c.val / 2) * 2560 + s.val
    have h : ∀ c : Dev nD, Layout.meshLin [2, 2] c.val [1, 0] = 2 * (c.val % 2) + c.val / 2 := by decide
    rw [h]

include hY in
theorem yA_apply (c : Dev nD) (s : Fin 2560) (k : Fin 1024) : yA m c (ix2 s k) = Y (ix2 (slot (run4 c) s) k) := by
  rw [hY c, Layout.blockN_apply]
  congr 1
  funext a
  apply Fin.ext
  rw [Layout.TilesN.idx_val]
  match a with
  | ⟨0, _⟩ =>
    show Layout.meshLin [2, 2] c.val [1, 0] * 2560 + s.val = (2 * (c.val % 2) + c.val / 2) * 2560 + s.val
    have h : ∀ c : Dev nD, Layout.meshLin [2, 2] c.val [1, 0] = 2 * (c.val % 2) + c.val / 2 := by decide
    rw [h]
  | ⟨1, _⟩ => show 0 * 1024 + k.val = k.val; omega

include hP hY in
/-- A device's partial product is its run's share of the whole product. -/
theorem part_eq (c : Dev nD) (R : Fin 2048) (k : Fin 1024) :
    part m c R k = ∑ s : Fin 2560, P (ix2 R (slot (run4 c) s)) * Y (ix2 (slot (run4 c) s) k) := by
  unfold part
  exact Finset.sum_congr rfl fun s _ => by rw [pA_apply m P hP, yA_apply m Y hY]

include hP hY in
/-- The four partial products make the whole one. -/
theorem parts_whole (c : Dev nD) (R : Fin 2048) (k : Fin 1024) :
    (part m c R k + part m (peer false c) R k) + (part m (peer true c) R k + part m (peer false (peer true c)) R k) = whole P Y R k := by
  simp only [part_eq m P Y hP hY]
  unfold whole
  rw [Fin.sum_univ_tiles 4 2560 rfl]
  exact (sum_runs (fun b => ∑ s : Fin 2560, P (ix2 R (slot b s)) * Y (ix2 (slot b s) k)) c).symm

include hP hY in
/-- The result's block on device `c` is its block of the whole product. -/
theorem outAt_apply (c : Dev nD) (x : S1024x1024.Idx) :
    (outAt m ρ c x : EReal) = whole P Y ⟨1024 * (c.val % 2) + (x 0).val, by have := rowLt x; omega⟩ (x 1) := by
  have hx : placeOf x = ix2 ⟨(x 0).val % 256, Nat.mod_lt _ (by decide)⟩ (x 1) := by
    funext a
    match a with
    | ⟨0, _⟩ => rfl
    | ⟨1, _⟩ => rfl
  have hr : keptRow c (chunkOf x) ⟨(x 0).val % 256, Nat.mod_lt _ (by decide)⟩ = ⟨1024 * (c.val % 2) + (x 0).val, by have := rowLt x; omega⟩ := by
    apply Fin.ext
    show 1024 * (c.val % 2) + 256 * ((x 0).val / 256) + (x 0).val % 256 = 1024 * (c.val % 2) + (x 0).val
    omega
  have h := full_apply m ρ c (chunkOf x) ⟨(x 0).val % 256, Nat.mod_lt _ (by decide)⟩ (x 1)
  rw [hr] at h
  refine ((congrArg (full m ρ c (chunkOf x)) hx).trans h).trans ?_
  exact parts_whole m P Y hP hY c _ _

end exact

/-- The reference's result at an index: a row of the whole product at a column. -/
theorem reference_apply (P : FVec Ideal Cert.ReferenceIdeal.S2048x10240 .bf16) (Y : FVec Ideal Cert.ReferenceIdeal.S10240x1024 .f32) (j : Cert.ReferenceIdeal.S2048x1024.Idx) :
    ((Host.dotGeneral Cert.ReferenceIdeal.dot_S2048x10240_S10240x1024_S2048x1024_1_0_0_1_n_n none
      (extf .f32 P Cert.ReferenceIdeal.Gen.bitsLt_bf16_f32) Y : FVec Ideal Cert.ReferenceIdeal.S2048x1024 .f32) j : EReal)
      = whole P Y (j 0) (j 1) := by
  pointwise
  rfl

/-- In exact arithmetic the call and the whole product agree: every device ends with its block of rows of `p @ yf`. -/
theorem algebraic : Cert.algebraic_KernelIdeal_ReferenceIdeal := by
  intro m g m' g' _ hagree
  refine ⟨_, ?_, (θ_run _ _ _).mono (fun _ h => h 0) (Cert.ReferenceIdeal.Value.run m' g')⟩
  refine (θ_run _ _ _).mono (fun r h c => ⟨?_, (h.1 c 0).trans (finalA_p m g c), (h.1 c 1).trans (finalA_y m g c)⟩) (run_main m g)
  refine ((h.1 c 2).trans (finalA_out m g c)).trans ?_
  funext x
  refine (outAt_apply m g _ _ (fun c => (hagree c).1) (fun c => (hagree c).2) c x).trans ?_
  rw [Layout.blockN_apply]
  refine Eq.trans ?_ (reference_apply _ _ _).symm
  congr 1
  · apply Fin.ext
    show 1024 * (c.val % 2) + (x 0).val = Layout.meshLin [2, 2] c.val [1] * 1024 + (x 0).val
    have h : ∀ c : Dev nD, Layout.meshLin [2, 2] c.val [1] = c.val % 2 := by decide
    rw [h]; omega
  · apply Fin.ext
    show (x 1).val = 0 * 1024 + (x 1).val
    omega

end Cert.KernelIdeal.Combine

end
-- ==== Proof.GatherIdealProto.lean ====
/-
The gathering call of v07: its exchange stated once.

Device `c` of the 2 x 2 mesh has one peer, the other device of the same x. It sends the peer three things, each with a
completion of its own at both ends: its rounded rows of x, its columns of the router, and its rows of the gates. Each is
written to the place on the peer that it has on the sender, so a place of a buffer is named by the device whose part it
holds. The cells of a device are its barrier and, for each thing and direction (`false` sent, `true` received), one transfer
completion. Everything is stated at a symbolic device and, where the things allow it, at a symbolic thing.
-/
module

public import proofs.«01_k».proof.Proof.Owing
public import proofs.«01_k».proof.Proof.Gen.GatherIdeal
public import proofs.«01_k».proof.Proof.Gen.GatherIdeal.Skeleton
public import proofs.«01_k».proof.Proof.Gen.GatherIdeal.Launch
public import Idealize.ShloMosaic.Lib.Pipeline.Launch
public import Idealize.ShloMosaic.Lib.Pipeline.Kit
public import Idealize.ShloMosaic.Lib.Ring
public import Idealize.ShloMosaic.Lib.Writes
public import Idealize.ShloMosaic.Lib.Tactic

@[expose] public section

noncomputable section

namespace Cert.GatherIdeal.Exchange

open Cert.GatherIdeal Cert.GatherIdeal.Gen Cert.Owing

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The mesh -/

set_option backward.proofsInPublic true in
/-- The other device of the same x. -/
def peer (c : Dev nD) : Dev nD := ⟨c.val + 1 - 2 * (c.val % 2), by have h : c.val < 4 := c.isLt; show _ < 4; omega⟩
theorem peer_peer (c : Dev nD) : peer (peer c) = c := by revert c; decide
def swap : Dev nD ≃ Dev nD := ⟨peer, peer, peer_peer, peer_peer⟩

/-- The device's y coordinate. -/
def yi (c : Dev nD) : Fin 2 := ⟨c.val % 2, Nat.mod_lt _ (by decide)⟩
theorem yi_peer (c : Dev nD) : yi c ≠ yi (peer c) := by revert c; decide

set_option backward.proofsInPublic true in
/-- The device of the same x with y coordinate `i`. -/
def mate (c : Dev nD) (i : Fin 2) : Dev nD := ⟨2 * (c.val / 2) + i.val, by have h : c.val < 4 := c.isLt; have h' : i.val < 2 := i.isLt; show _ < 4; omega⟩
theorem mate_mod (c : Dev nD) (i : Fin 2) : (mate c i).val % 2 = i.val := by revert c i; decide
theorem yi_mate (c : Dev nD) (i : Fin 2) : yi (mate c i) = i := Fin.ext (mate_mod c i)
theorem mate_peer (c : Dev nD) (i : Fin 2) : mate (peer c) i = mate c i := by revert c i; decide
theorem mate_self (c : Dev nD) : mate c (yi c) = c := by revert c; decide
/-- Either the device is the first of the pair and its peer the second, or the other way round. -/
theorem mate_cases (c : Dev nD) : (mate c 0 = c ∧ mate c 1 = peer c) ∨ (mate c 0 = peer c ∧ mate c 1 = c) := by revert c; decide
theorem mate_or (c : Dev nD) (i : Fin 2) : mate c i = c ∨ mate c i = peer c := by revert c i; decide

theorem dev1_eq (c : Dev nD) : (⟨k0_dev1 c, k0_dev1_lt c⟩ : Dev nD) = peer c := Fin.ext ((k0_dev1_eq c).trans (by revert c; decide))
theorem dev2_eq (c : Dev nD) : (⟨k0_dev2 c, k0_dev2_lt c⟩ : Dev nD) = peer c := dev1_eq c
theorem dev3_eq (c : Dev nD) : (⟨k0_dev3 c, k0_dev3_lt c⟩ : Dev nD) = peer c := dev1_eq c
theorem dev4_eq (c : Dev nD) : (⟨k0_dev4 c, k0_dev4_lt c⟩ : Dev nD) = peer c := dev1_eq c

/-! ## The buffers and the semaphores -/

abbrev aM : Memref sig .tc .vmem S1024x1024 .f32 := Memref.whole cc0_stg0_0
abbrev bM : Memref sig .tc .vmem S1024x8 .f32 := Memref.whole cc0_stg1_0
/-- The gathered x, the gates, the two devices' columns of the router. -/
abbrev xM : Memref sig .tc .vmem S2048x1024 .bf16 := Memref.whole cc0_stg2_0
abbrev gM : Memref sig .tc .vmem S2048x16 .f32 := Memref.whole cc0_stg3_0
abbrev rM : Memref sig .tc .vmem S2x1024x8 .f32 := Memref.whole cc0_scratch0

abbrev aR : Rect S1024x1024 := Rect.unit (s := S1024x1024) ![0, 0] S1024x1024.size inb_S1024x1024_S1024x1024_0_0
abbrev bR : Rect S1024x8 := Rect.unit (s := S1024x8) ![0, 0] S1024x8.size inb_S1024x8_S1024x8_0_0
/-- Where device `d`'s part lies. -/
abbrev xR (d : Dev nD) : Rect S2048x1024 := Rect.unit (s := S2048x1024) (k0_off1 d) S1024x1024.size (k0_off1_inb d)
abbrev rR (d : Dev nD) : Rect S2x1024x8 := Rect.unit (s := S2x1024x8) (k0_off2 d) S1x1024x8.size (k0_off2_inb d)
abbrev gR (d : Dev nD) : Rect S2048x16 := Rect.unit (s := S2048x16) (k0_off5 d) S1024x16.size (k0_off5_inb d)
/-- The same as the transfers address it. -/
abbrev xV (d : Dev nD) : Memref sig .tc .vmem S1024x1024 .bf16 := xM.slice (xR d) (fun _ => rfl)
abbrev rV (d : Dev nD) : Memref sig .tc .vmem S1024x8 .f32 := (rM.slice (rR d) (fun _ => rfl)).squeeze S1024x8 squeezes_S1x1024x8_S1024x8
abbrev gV (d : Dev nD) : Memref sig .tc .vmem S1024x16 .f32 := gM.slice (gR d) (fun _ => rfl)

/-- A transfer completion: which thing (x, router, gates), which direction. -/
abbrev Xf : Type := Fin 3 × Bool

abbrev barS : Sem sig := barrier0
/-- The semaphore of a transfer completion. -/
abbrev dsem (k : Xf) : DmaSem sig :=
  ⟨4 + (if k.2 then 3 else 0) + k.1.val, by
    have h : k.1.val < 3 := k.1.isLt
    show _ < 10
    split <;> omega⟩
/-- Which completion a semaphore is. -/
def kind (q : DmaSem sig) : Option Xf :=
  if 4 ≤ q.val then some (⟨(q.val - 4) % 3, Nat.mod_lt _ (by decide)⟩, decide (7 ≤ q.val)) else none
theorem kind_dsem (k : Xf) : kind (dsem k) = some k := by
  obtain ⟨i, d⟩ := k; revert i d; decide
theorem dsem_inj {k k' : Xf} (h : dsem k = dsem k') : k = k' := by
  have := congrArg kind h; rw [kind_dsem, kind_dsem] at this; exact Option.some.inj this

/-- A device's own cells: the barrier, the transfer completions. -/
abbrev csem : Option Xf → SemLoc sig
  | none => .reg barS
  | some k => .dma (dsem k)
abbrev kcell (ck : Dev nD × Option Xf) : GSem nD τ sig := ((ck.1 : Thread nD τ), csem ck.2)
abbrev bcell (c : Dev nD) : GSem nD τ sig := kcell (c, none)
abbrev xcell (c : Dev nD) (k : Xf) : GSem nD τ sig := kcell (c, some k)

/-- The bytes of a thing. -/
def N : Fin 3 → ℕ
  | 0 => (xV 0).view.dmaCredit
  | 1 => (rV 0).view.dmaCredit
  | 2 => (gV 0).view.dmaCredit
theorem N_pos (k : Fin 3) : 0 < N k := by
  match k with
  | 0 => exact View.dmaCredit_pos _ (by decide)
  | 1 => exact View.dmaCredit_pos _ (by decide)
  | 2 => exact View.dmaCredit_pos _ (by decide)
theorem credit_x (d : Dev nD) : (xV d).view.dmaCredit = N 0 := rfl
theorem credit_r (d : Dev nD) : (rV d).view.dmaCredit = N 1 := rfl
theorem credit_g (d : Dev nD) : (gV d).view.dmaCredit = N 2 := rfl

/-! ## Places held -/

/-- A view's elements on device `c` held whole, the buffer's contents there such that `P`. -/
def piece {S : Shape} {e : EltTy} (v : View sig .tc .vmem S e) (c : Dev nD) (P : v.ty.Contents (Elt F) → Prop) : sProp 𝕄 :=
  iprop(∃ f : Buf (Elt F) (v.loc (c : Thread nD τ)), ⌜P f⌝ ∗ (v.loc (c : Thread nD τ) ↦[v.set]{fullShare} f))

omit [FloatOps F] in
instance piece_storable {S : Shape} {e : EltTy} (v : View sig .tc .vmem S e) (c : Dev nD) (P : v.ty.Contents (Elt F) → Prop) :
    BI.Storable (upEmb : UEmb _ 𝕄) (piece v c P) := by unfold piece; infer_instance

omit [FloatOps F] in
theorem piece_mono {S : Shape} {e : EltTy} (v : View sig .tc .vmem S e) (c : Dev nD) (P Q : v.ty.Contents (Elt F) → Prop) (h : ∀ f, P f → Q f) :
    (piece v c P : sProp 𝕄) ⊢ piece v c Q := by
  unfold piece
  iintro ⟨%f, %hf, H⟩
  iexists f
  isplitr
  · ipureintro; exact h f hf
  · iexact H

omit [FloatOps F] in
/-- A reshaped view holds the same elements. -/
theorem piece_reshape {S S' : Shape} {e : EltTy} (v : View sig .tc .vmem S e) (h : S'.numel = S.numel) (c : Dev nD) (P : v.ty.Contents (Elt F) → Prop) :
    (piece v c P : sProp 𝕄) = piece (v.reshape S' h) c P := by
  unfold piece
  show iprop(∃ f : Buf (Elt F) (v.loc (c : Thread nD τ)), ⌜P f⌝ ∗ (v.loc (c : Thread nD τ) ↦[v.set]{fullShare} f))
    = iprop(∃ f : Buf (Elt F) (v.loc (c : Thread nD τ)), ⌜P f⌝ ∗ (v.loc (c : Thread nD τ) ↦[(v.reshape S' h).set]{fullShare} f))
  rw [View.set_reshape]

/-! ## Contents -/

/-- Device `c`'s rows of x, its columns of the router, as staged. -/
def xst (c : Dev nD) : (cc0_stg0_0 : Ref sig .tc).ty.Contents (Elt F) :=
  (win0_0.blk (0 : Fin 1)).view.read (Elt F) ((s₀ m ρ).mem ((c : Thread nD τ).loc main_arg0))
def rst (c : Dev nD) : (cc0_stg1_0 : Ref sig .tc).ty.Contents (Elt F) :=
  (win0_1.blk (0 : Fin 1)).view.read (Elt F) ((s₀ m ρ).mem ((c : Thread nD τ).loc main_arg1))

/-- Its rounded rows of x; -/
def xs (c : Dev nD) : FVec F S1024x1024 .bf16 := k0_pay1 (aM.view.readAt (Elt F) aR.toLoadRect (xst m ρ c))
/-- its columns of the router; -/
def rs (c : Dev nD) : FVec F S1x1024x8 .f32 := k0_pay2 (bM.view.readAt (Elt F) bR.toLoadRect (rst m ρ c))
/-- its rows of the gates. -/
def gs (c : Dev nD) : FVec F S1024x16 .f32 := k0_pay3 (rs m ρ (mate c 0)) (rs m ρ (mate c 1)) (aM.view.readAt (Elt F) aR.toLoadRect (xst m ρ c))

/-- Device `d`'s place of a thing on device `c`, at some contents; -/
def spot (k : Fin 3) (c d : Dev nD) : sProp 𝕄 := match k with
  | 0 => piece (xM.access (xR d)) c fun _ => True
  | 1 => piece (rM.access (rR d)) c fun _ => True
  | 2 => piece (gM.access (gR d)) c fun _ => True
/-- holding what device `d` computed. -/
def held (k : Fin 3) (c d : Dev nD) : sProp 𝕄 := match k with
  | 0 => piece (xM.access (xR d)) c fun f => xM.view.readAt (Elt F) (xR d).toLoadRect f = xs m ρ d
  | 1 => piece (rM.access (rR d)) c fun f => rM.view.readAt (Elt F) (rR d).toLoadRect f = rs m ρ d
  | 2 => piece (gM.access (gR d)) c fun f => gM.view.readAt (Elt F) (gR d).toLoadRect f = gs m ρ d

omit [FloatOps F] in
instance spot_storable (k : Fin 3) (c d : Dev nD) : BI.Storable (upEmb : UEmb _ 𝕄) (spot (F := F) k c d) := by
  unfold spot; split <;> infer_instance
instance held_storable (k : Fin 3) (c d : Dev nD) : BI.Storable (upEmb : UEmb _ 𝕄) (held (F := F) m ρ k c d) := by
  unfold held; split <;> infer_instance

/-! ## The schedule -/

/-- What the peer's signal hands the device waiting at its barrier: its own three places on the peer. -/
def lend (c : Dev nD) : sProp 𝕄 := iprop(spot 0 (peer c) c ∗ spot 1 (peer c) c ∗ spot 2 (peer c) c)
omit [FloatOps F] in
instance lend_storable (c : Dev nD) : BI.Storable (upEmb : UEmb _ 𝕄) (lend (F := F) c) := by unfold lend; infer_instance

/-- What a completed transfer hands over: the sent part back, the peer's part landed. -/
def land (c : Dev nD) (k : Xf) : sProp 𝕄 := held m ρ k.1 c (if k.2 then peer c else c)
instance land_storable (c : Dev nD) (k : Xf) : BI.Storable (upEmb : UEmb _ 𝕄) (land (F := F) m ρ c k) := by
  unfold land; infer_instance

def dutiesOf : SemLoc sig → Finset Unit
  | .reg s => if s = barS then {()} else ∅
  | .dma q => if (kind q).isSome then {()} else ∅
def amountOf : SemLoc sig → ℕ
  | .reg _ => 1
  | .dma q => match kind q with
    | some k => N k.1
    | none => 1
def payOf (c : Dev nD) : SemLoc sig → sProp 𝕄
  | .reg _ => lend c
  | .dma q => match kind q with
    | some k => land m ρ c k
    | none => iprop(emp)

/-- One round: at each barrier a unit from the peer, at each completion the transfer's bytes. -/
def Rd : Rounds.Schedule (GSem nD τ sig) Unit 𝕄 where
  duties g r := if r = 0 ∧ g.1.2 = .tc then dutiesOf g.2 else ∅
  unitless _ := False
  amount g _ _ := amountOf g.2
  payload g _ _ := payOf m ρ g.1.1 g.2
  amount_pos g _ _ _ := by
    show 0 < amountOf g.2
    unfold amountOf; split
    · exact Nat.one_pos
    · split
      · exact N_pos _
      · exact Nat.one_pos

instance Rd_payload_storable (g : GSem nD τ sig) (r : ℕ) (d : Unit) : BI.Storable (upEmb : UEmb _ 𝕄) ((Rd (F := F) m ρ).payload g r d) := by
  show BI.Storable upEmb (payOf m ρ g.1.1 g.2)
  unfold payOf; (repeat' split) <;> infer_instance

section Sched
variable (c : Dev nD) (k : Xf)

theorem duties_bar : (Rd (F := F) m ρ).duties (bcell c) 0 = {()} := by
  dsimp only [Rd]; rw [if_pos ⟨rfl, rfl⟩]
  show (if barS = barS then ({()} : Finset Unit) else ∅) = _
  exact if_pos rfl
theorem duties_xf : (Rd (F := F) m ρ).duties (xcell c k) 0 = {()} := by
  dsimp only [Rd]; rw [if_pos ⟨rfl, rfl⟩]; exact if_pos (by rw [kind_dsem]; rfl)
theorem duties_later (g : GSem nD τ sig) : ∀ r, 1 ≤ r → (Rd (F := F) m ρ).duties g r = ∅ :=
  fun r hr => if_neg fun h => by have := h.1; omega
theorem amount_bar (d : Unit) : (Rd (F := F) m ρ).amount (bcell c) 0 d = 1 := rfl
theorem amount_xf (d : Unit) : (Rd (F := F) m ρ).amount (xcell c k) 0 d = N k.1 := by
  show (match kind (dsem k) with | some k => N k.1 | none => 1) = _
  rw [kind_dsem]
theorem expect_bar : (Rd (F := F) m ρ).expect (bcell c) 0 = 1 := by
  unfold Schedule.expect Schedule.amountOf; rw [duties_bar, Finset.sum_singleton, amount_bar]
theorem expect_xf : (Rd (F := F) m ρ).expect (xcell c k) 0 = N k.1 := by
  unfold Schedule.expect Schedule.amountOf; rw [duties_xf, Finset.sum_singleton, amount_xf]
theorem payload_bar (d : Unit) : (Rd (F := F) m ρ).payload (bcell c) 0 d = lend c := rfl
theorem payload_xf (d : Unit) : (Rd (F := F) m ρ).payload (xcell c k) 0 d = land m ρ c k := by
  show (match kind (dsem k) with | some k => land m ρ c k | none => iprop(emp)) = _
  rw [kind_dsem]
theorem rest_bar : bigSep ((Rd (F := F) m ρ).duties (bcell c) 0 \ ∅) (fun d => (Rd (F := F) m ρ).payload (bcell c) 0 d) = lend c := by
  rw [Finset.sdiff_empty, duties_bar, bigSep_singleton, payload_bar]
theorem rest_xf : bigSep ((Rd (F := F) m ρ).duties (xcell c k) 0 \ ∅) (fun d => (Rd (F := F) m ρ).payload (xcell c k) 0 d) = land m ρ c k := by
  rw [Finset.sdiff_empty, duties_xf, bigSep_singleton, payload_xf]

end Sched

/-! ## What a device owes, and the levels of the waits -/

abbrev debtBar (c : Dev nD) : GSem nD τ sig × ℕ := (bcell (peer c), 1)
abbrev debtXf (c : Dev nD) (k : Fin 3) : GSem nD τ sig × ℕ := (xcell (peer c) (k, true), N k)
/-- The landings a device owes its peer, in the order it pays: the router, x, the gates. -/
abbrev planX (c : Dev nD) : List (GSem nD τ sig × ℕ) := [debtXf c 1, debtXf c 0, debtXf c 2]
abbrev plan (c : Dev nD) : List (GSem nD τ sig × ℕ) := debtBar c :: planX c

def L (g : GSem nD τ sig) : Finset Unit := if g.1.2 = .tc then {()} else ∅
/-- Barriers below the router's landings, those below the others. -/
def lv (g : GSem nD τ sig) (_ : Unit) : ℕ := match g.2 with
  | .reg _ => 1
  | .dma q => match kind q with
    | some (k, true) => if k = 1 then 2 else 3
    | _ => 0

theorem L_of_ne (g : GSem nD τ sig) (h : g.1.2 ≠ .tc) : L g = ∅ := if_neg h
theorem L_tc (g : GSem nD τ sig) (h : g.1.2 = .tc) : L g = {()} := if_pos h
theorem lv_bar (c : Dev nD) : lv (bcell c) () = 1 := rfl
theorem lv_xf (c : Dev nD) (k : Fin 3) (d : Bool) : lv (xcell c (k, d)) () = if d then (if k = 1 then 2 else 3) else 0 := by
  show (match kind (dsem (k, d)) with | some (k, true) => if k = 1 then 2 else 3 | _ => 0) = _
  rw [kind_dsem]; cases d <;> rfl

/-- Every debt is a TensorCore's, at level 1 or above; -/
theorem plan_levels (c : Dev nD) : ∀ p ∈ plan c, p.1.1.2 = .tc ∧ 0 < lv p.1 () := by
  simp only [plan, planX, debtBar, debtXf, List.forall_mem_cons, lv_bar, lv_xf]
  simp
/-- past the barrier, at level 2 or above; -/
theorem planX_levels (c : Dev nD) : ∀ p ∈ planX c, p.1.1.2 = .tc ∧ 1 < lv p.1 () := by
  simp only [planX, debtXf, List.forall_mem_cons, lv_xf]
  simp
/-- the gates', at level 3. -/
theorem planG_levels (c : Dev nD) : ∀ p ∈ [debtXf c 2], p.1.1.2 = .tc ∧ 2 < lv p.1 () := by
  simp only [debtXf, List.forall_mem_cons, lv_xf]
  simp

omit [FloatOps F] in
theorem mayWait_stage (c : Dev nD) (q : DmaSem sig) (hq : kind q = none) (O : CellTallies nD τ sig Unit) (hO : O = owe (plan c) ∨ O = 0) :
    (levAts L lv : sProp 𝕄) ⊢ MayWait (c : Thread nD τ) (.dma q) () O := by
  rcases hO with rfl | rfl
  · refine mayWait_owe (c : Thread nD τ) (.dma q) (plan c) L_tc rfl fun p hp => ⟨(plan_levels c p hp).1, ?_⟩
    have h0 : lv ((c : Thread nD τ), .dma q) () = 0 := by
      show (match kind q with | some (k, true) => if k = 1 then 2 else 3 | _ => 0) = 0
      rw [hq]
    rw [h0]; exact (plan_levels c p hp).2
  · rw [MayWait_zero]; iintro -; iempintro
omit [FloatOps F] in
theorem mayWait_bar (c : Dev nD) : (levAts L lv : sProp 𝕄) ⊢ MayWait (c : Thread nD τ) (.reg barS) () (owe (planX c)) :=
  mayWait_owe (c : Thread nD τ) (.reg barS) (planX c) L_tc rfl fun p hp => planX_levels c p hp
omit [FloatOps F] in
/-- The router's transfers may be awaited while the gates are owed. -/
theorem mayWait_router (c : Dev nD) (d : Bool) : (levAts L lv : sProp 𝕄) ⊢ MayWait (c : Thread nD τ) (.dma (dsem (1, d))) () (owe [debtXf c 2]) :=
  mayWait_owe (c : Thread nD τ) (.dma (dsem (1, d))) [debtXf c 2] L_tc rfl fun p hp => ⟨(planG_levels c p hp).1, by
    have e : lv ((c : Thread nD τ), .dma (dsem (1, d))) () ≤ 2 := by rw [show lv ((c : Thread nD τ), .dma (dsem (1, d))) () = _ from lv_xf c 1 d]; cases d <;> decide
    exact lt_of_le_of_lt e (planG_levels c p hp).2⟩

end Cert.GatherIdeal.Exchange

end
-- ==== Proof.GatherIdealBody.lean ====
/-
The gathering call of v07: the steps of its body.

Filling a place, reading one, sending one, awaiting a transfer and having its semaphore back at zero are lemmas at a symbolic
device and thing; so are the signal and the wait at the barrier.
-/
module

public import proofs.«01_k».proof.Proof.GatherIdealProto

@[expose] public section

noncomputable section

namespace Cert.GatherIdeal.Exchange

open Cert.GatherIdeal Cert.GatherIdeal.Gen Cert.Owing

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a piece of a device's body. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What the body holds -/

/-- All cells' invariants, and that round 0 of each is reached. -/
def records (K : Dev nD × Option Xf → ℕ) : sProp 𝕄 :=
  iprop((bigSep Finset.univ fun ck : Dev nD × Option Xf => cellInv ER (Rd m ρ) (K ck) (kcell ck))
    ∗ bigSep Finset.univ fun ck : Dev nD × Option Xf => reached ER (kcell ck) 0)
instance records_persistent (K : Dev nD × Option Xf → ℕ) : BI.Persistent (records m ρ K) := by unfold records; infer_instance

theorem inv_at (K : Dev nD × Option Xf → ℕ) (ck : Dev nD × Option Xf) : records m ρ K ⊢ cellInv ER (Rd m ρ) (K ck) (kcell ck) := by
  unfold records
  iintro ⟨H, -⟩
  iapply (show (bigSep Finset.univ fun ck : Dev nD × Option Xf => (cellInv ER (Rd m ρ) (K ck) (kcell ck) : sProp 𝕄)) ⊢ cellInv ER (Rd m ρ) (K ck) (kcell ck)
    from bigSep_elim (Finset.mem_univ ck))
  iexact H
theorem reached_at (K : Dev nD × Option Xf → ℕ) (ck : Dev nD × Option Xf) : records m ρ K ⊢ reached ER (kcell ck) 0 := by
  unfold records
  iintro ⟨-, H⟩
  iapply (show (bigSep Finset.univ fun ck : Dev nD × Option Xf => (reached ER (kcell ck) 0 : sProp 𝕄)) ⊢ reached ER (kcell ck) 0
    from bigSep_elim (Finset.mem_univ ck))
  iexact H

/-- A device's debts: those listed, its waits so far whatever they are. -/
def debts (c : Dev nD) (l : List (GSem nD τ sig × ℕ)) : sProp 𝕄 := iprop(∃ W, owes (c : Thread nD τ) (owe l) W)
/-- What sending a thing takes besides its places: both completions' tokens, the position at its own. -/
def gear (k : Fin 3) (c : Dev nD) : sProp 𝕄 :=
  iprop(dutyTok ER (xcell c (k, false)) 0 () ∗ dutyTok ER (xcell (peer c) (k, true)) 0 () ∗ atPos ER (xcell c (k, false)) 0 ∅ 0)
/-- The right to await a transfer. -/
def due (k : Xf) (c : Dev nD) : sProp 𝕄 := iprop(cred (tallyAt (xcell c k) () (N k.1)) ∗ atPos ER (xcell c k) 0 ∅ 0)

/-! ## The steps -/

section Steps

variable (K : Dev nD × Option Xf → ℕ)

omit [FloatOps F] in
theorem copy_read {S : Shape} {e : EltTy} (v : View sig .tc .vmem S e) (f f' : v.ty.Contents (Elt F)) :
    v.read (Elt F) (v.write (Elt F) f' (v.read (Elt F) f) Finset.univ) = v.read (Elt F) f := View.read_write_univ _ _
omit [FloatOps F] in
/-- A part copied through a reshaped view reads at the target what it read at the source. -/
theorem copy_read_reshape {S S' : Shape} {e : EltTy} (v : View sig .tc .vmem S e) (h : S'.numel = S.numel) (f f' : v.ty.Contents (Elt F)) :
    v.read (Elt F) ((v.reshape S' h).write (Elt F) f' ((v.reshape S' h).read (Elt F) f) Finset.univ) = v.read (Elt F) f := by
  rw [View.write_reshape_univ, View.read_write_univ]
  funext x
  rw [View.read_apply, View.read_apply]
  simp only [View.emb_reshape, Function.Embedding.trans_apply, Equiv.coe_toEmbedding, Equiv.apply_symm_apply]

/-- Filling a place (the load of what it held is dead). -/
theorem step_fill (c : Dev nD) {S : Shape} {e : EltTy} (b : Memref sig .tc .vmem S e) (r : Rect S) (w : Vec F r.shape e)
    {hl : b.view.LoadsAt r.toLoadRect} {hx : (b.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    piece (b.access r) c (fun _ => True) ⊢ iprop((piece (b.access r) c (fun f => b.view.readAt (Elt F) r.toLoadRect f = w) -∗ run c (k ⟨⟩) Q)
      -∗ run c (.op (.load b r.toLoadRect hl) fun _ => .op (.store b r w Finset.univ hx hm) k) Q) := by
  unfold piece
  iintro ⟨%f, -, H⟩ Hk
  iapply (wp_load_rect 𝒱₀ (c : Thread nD τ) none Set.univ (m := b) (r := r) (Finset.Subset.refl (b.access r).set)) $$ H; iintro H
  iapply (wp_store 𝒱₀ (c : Thread nD τ) none Set.univ (m := b) (r := r) (Mk := Finset.univ) (View.setOn_univ (b.access r)).subset) $$ H; iintro H
  iapply Hk
  iexists _
  isplitr
  swap
  · iexact H
  · ipureintro
    exact View.read_write_univ (v := b.access r) f w

/-- Reading a place. -/
theorem step_read (c : Dev nD) {S : Shape} {e : EltTy} (b : Memref sig .tc .vmem S e) (r : Rect S) (w : Vec F r.shape e)
    {hl : b.view.LoadsAt r.toLoadRect} {α : Type} {Q : α → sProp 𝕄} {k : Vec F r.shape e → Prog (TpuEff nD τ sig (Elt F) Λ₀ .tc) α} :
    piece (b.access r) c (fun f => b.view.readAt (Elt F) r.toLoadRect f = w)
      ⊢ iprop((piece (b.access r) c (fun f => b.view.readAt (Elt F) r.toLoadRect f = w) -∗ run c (k w) Q) -∗ run c (.op (.load b r.toLoadRect hl) k) Q) := by
  unfold piece
  iintro ⟨%f, %hf, H⟩ Hk
  iapply (wp_load_rect 𝒱₀ (c : Thread nD τ) none Set.univ (m := b) (r := r) (Finset.Subset.refl (b.access r).set)) $$ H; iintro H
  rw [show (b.access r).read (Elt F) f = w from hf]
  iapply Hk
  iexists f
  isplitr
  · ipureintro; exact hf
  · iexact H

/-- Where the columns of the pair's device with y coordinate `i` lie. -/
theorem slot_inb (i : Fin 2) : ∀ a, (![i.val, 0, 0] : Fin 3 → Nat) a + S1x1024x8.size a ≤ S2x1024x8.size a := by revert i; decide
abbrev slotR (i : Fin 2) : Rect S2x1024x8 := Rect.unit (s := S2x1024x8) ![i.val, 0, 0] S1x1024x8.size (slot_inb i)
theorem slot_eq (d : Dev nD) : rR d = slotR (yi d) := by
  have h (o o' : Fin 3 → Nat) (ho) (ho') (e : o = o') : Rect.unit (s := S2x1024x8) o S1x1024x8.size ho = Rect.unit (s := S2x1024x8) o' S1x1024x8.size ho' := by subst e; rfl
  exact h _ _ _ _ (k0_off2_eq d)
theorem held_slot (c d : Dev nD) (i : Fin 2) (h : yi d = i) :
    held m ρ 1 c d = piece (rM.access (slotR i)) c fun f => rM.view.readAt (Elt F) (slotR i).toLoadRect f = rs m ρ d := by
  subst h
  have e (r : Rect S2x1024x8) (hr : rR d = r) (w : Vec F (rR d).shape .f32) (w' : Vec F r.shape .f32) (hw : HEq w w') :
      (piece (rM.access (rR d)) c fun f => rM.view.readAt (Elt F) (rR d).toLoadRect f = w : sProp 𝕄)
        = piece (rM.access r) c fun f => rM.view.readAt (Elt F) r.toLoadRect f = w' := by
    subst hr; rw [eq_of_heq hw]
  exact e (slotR (yi d)) (slot_eq d) (rs m ρ d) (rs m ρ d) HEq.rfl

/-- Sending a thing: the peer's place goes with it, the debt is paid, the completion at the sender is due. -/
theorem step_send (c n : Dev nD) (k : Fin 3) (rest : List (GSem nD τ sig × ℕ)) (hn : n = peer c)
    {S : Shape} {e : EltTy} (V : Memref sig .tc .vmem S e) (P : V.view.ty.Contents (Elt F) → Prop)
    (hP : ∀ fs fd, P fs → P (V.view.write (Elt F) fd (V.view.read (Elt F) fs) Finset.univ))
    (hheld : ∀ d, held m ρ k d c = piece V.view d P) (hspot : spot (F := F) k (peer c) c = piece V.view (peer c) fun _ => True)
    (hN : V.view.dmaCredit = N k) (qr qs : DmaSem sig) (hqr : qr = dsem (k, true)) (hqs : qs = dsem (k, false))
    {hsc : (V : Memref sig (Dev.tc n : Thread nD τ).2.kind .vmem S e).view.ref.isScScratch = false}
    {hsrc hdst : V.view.WordExact}
    {hsem : DmaTarget.Typed .vmem (.dma qr) (.remote (Dev.tc n : Thread nD τ) V (.dma qs) hsc)}
    {α : Type} {Q : α → sProp 𝕄} {k' : PUnit → Prog (TpuEff nD τ sig (Elt F) Λ₀ .tc) α} :
    iprop(records m ρ K ∗ held m ρ k c c ∗ spot k (peer c) c ∗ gear k c ∗ debts c (debtXf c k :: rest))
      ⊢ iprop(((due (k, false) c ∗ debts c rest) -∗ run c (k' ⟨⟩) Q)
          -∗ run c (.op (.enqueueDma V (.remote (Dev.tc n : Thread nD τ) V (.dma qs) hsc) (.dma qr) hsrc hdst hsem) k') Q) := by
  subst hn hqr hqs
  have hpay₁ : ∀ fs : Buf (Elt F) (V.view.loc (c : Thread nD τ)), P fs → (V.view.loc (c : Thread nD τ) ↦[V.view.set]{fullShare} fs : sProp 𝕄) ⊢ (Rd m ρ).payload (xcell c (k, false)) 0 () := fun fs hfs => by
    rw [payload_xf m ρ c (k, false)]; unfold land
    dsimp only
    rw [if_neg Bool.false_ne_true, hheld]; unfold piece
    iintro H; iexists fs
    isplitr
    · ipureintro; exact hfs
    · iexact H
  have hpay₂ : ∀ (fs : Buf (Elt F) (V.view.loc (c : Thread nD τ))) (fd : Buf (Elt F) (V.view.loc (peer c : Thread nD τ))), P fs →
      (V.view.loc (peer c : Thread nD τ) ↦[V.view.set]{fullShare} (V.view.write (Elt F) fd (V.view.read (Elt F) fs) Finset.univ) : sProp 𝕄)
        ⊢ (Rd m ρ).payload (xcell (peer c) (k, true)) 0 () := fun fs fd hfs => by
    rw [payload_xf m ρ (peer c) (k, true)]; unfold land
    dsimp only
    rw [if_pos rfl, peer_peer, hheld]; unfold piece
    iintro H; iexists _
    isplitr
    swap
    · iexact H
    · ipureintro; exact hP fs fd hfs
  have hd₁ : () ∈ (Rd (F := F) m ρ).duties (xcell c (k, false)) 0 := by rw [duties_xf]; exact Finset.mem_singleton_self _
  have hd₂ : () ∈ (Rd (F := F) m ρ).duties (xcell (peer c) (k, true)) 0 := by rw [duties_xf]; exact Finset.mem_singleton_self _
  rw [hheld, hspot]
  unfold gear debts piece
  iintro ⟨#HR, ⟨%fs, %hfs, Hs⟩, ⟨%fd, -, Hd⟩, ⟨Ht1, Ht2, Hat⟩, ⟨%W, HO⟩⟩ Hk
  iapply (Rounds.wp_send_pointsTo 𝒱₀ ER (Rd m ρ) (c : Thread nD τ) none (κ₁ := K (c, some (k, false))) (κ₂ := K (peer c, some (k, true)))
    (c' := (peer c : Thread nD τ)) (src := V) (dst := V) (r₁ := 0) (r₂ := 0) (d₁ := ()) (d₂ := ()) (fs := fs) (fd := fd)
    hd₁ hd₂ () () (N k) hN (amount_xf m ρ c (k, false) ()) (amount_xf m ρ (peer c) (k, true) ()) (owe rest) rfl (W := W)
    (hpay₁ fs hfs) (hpay₂ fs fd hfs)) $$ [Hs Hd HO Ht1 Ht2]
  · isplitr; · iapply (inv_at m ρ K (c, some (k, false))); iexact HR
    isplitr; · iapply (inv_at m ρ K (peer c, some (k, true))); iexact HR
    isplitl [Hs]; · iexact Hs
    isplitl [Hd]; · iexact Hd
    isplitl [HO]; · iexact HO
    isplitl [Ht1]; · iexact Ht1
    isplitr; · iapply (reached_at m ρ K (c, some (k, false))); iexact HR
    isplitl [Ht2]; · iexact Ht2
    iapply (reached_at m ρ K (peer c, some (k, true))); iexact HR
  iintro ⟨Hc, HO⟩
  iapply Hk
  unfold due
  isplitl [Hc Hat]
  · isplitl [Hc] <;> iassumption
  iexists W; iexact HO

/-- Awaiting a transfer: what it hands over comes back, and the semaphore at zero. -/
theorem step_wait (c : Dev nD) (x : Xf) (rest : List (GSem nD τ sig × ℕ)) (q : DmaSem sig) (hq : q = dsem x)
    {S : Shape} {e : EltTy} {src dst : Memref sig .tc .vmem S e} {hsrc : src.view.WordExact} {hdst : dst.view.WordExact} (hN : dst.view.dmaCredit = N x.1)
    {α : Type} {Q : α → sProp 𝕄} {k : PUnit → Prog (TpuEff nD τ sig (Elt F) Λ₀ .tc) α} :
    iprop(records m ρ K ∗ due x c ∗ debts c rest ∗ MayWait (c : Thread nD τ) (.dma (dsem x)) () (owe rest))
      ⊢ iprop(((land m ρ c x ∗ semVal (xcell c x) 0 ∗ debts c rest) -∗ run c (k ⟨⟩) Q)
          -∗ run c (.op (.waitDma2 q src dst hsrc hdst) k) Q) := by
  subst hq
  have he : 0 + dst.view.dmaCredit = (Rd (F := F) m ρ).expect (xcell c x) 0 := by rw [Nat.zero_add, hN, expect_xf]
  unfold due debts
  iintro ⟨#HR, ⟨Hc, Hat⟩, ⟨%W, HO⟩, HM⟩ Hk
  iapply (Rounds.wp_wait_rest_token 𝒱₀ ER (Rd m ρ) (c : Thread nD τ) none (κ := K (c, some x))
      (wpE_waitDma2_eq 𝒱₀ (c : Thread nD τ) none Set.univ) (Set.mem_univ _) () (O := owe rest) (W := W) (R := 0) (m := 0) (T := ∅) he) $$ [Hc HO HM Hat]
  · isplitr; · iapply (inv_at m ρ K (c, some x)); iexact HR
    isplitl [Hc]; · rw [hN]; iexact Hc
    isplitl [HO]; · iexact HO
    isplitl [HM]; · iexact HM
    iexact Hat
  iintro ⟨HO, Hat, -, Hpay⟩
  imod (Rounds.cell_close ER (Rd m ρ) (Set.mem_univ (K (c, some x))) (fun h => h) (R := 0 + 1) (duties_later m ρ (xcell c x))) $$ [Hat] with Hz
  · isplitr; · iapply (inv_at m ρ K (c, some x)); iexact HR
    iexact Hat
  iapply Hk
  isplitl [Hpay]; · iapply (Entails.of_eq (rest_xf m ρ c x)); iexact Hpay
  isplitl [Hz]; · iexact Hz
  iexists _; iexact HO

/-- The router's transfers, awaited while the gates are owed; -/
theorem step_router (c : Dev nD) (d : Bool) (q : DmaSem sig) (hq : q = dsem (1, d))
    {S : Shape} {e : EltTy} {src dst : Memref sig .tc .vmem S e} {hsrc : src.view.WordExact} {hdst : dst.view.WordExact} (hN : dst.view.dmaCredit = N 1)
    {α : Type} {Q : α → sProp 𝕄} {k : PUnit → Prog (TpuEff nD τ sig (Elt F) Λ₀ .tc) α} :
    iprop(records m ρ K ∗ levAts L lv ∗ due (1, d) c ∗ debts c [debtXf c 2])
      ⊢ iprop(((held m ρ 1 c (if d then peer c else c) ∗ semVal (xcell c (1, d)) 0 ∗ debts c [debtXf c 2]) -∗ run c (k ⟨⟩) Q)
          -∗ run c (.op (.waitDma2 q src dst hsrc hdst) k) Q) := by
  iintro ⟨#HR, #Hlev, Hdue, HO⟩
  iapply (step_wait m ρ K c (1, d) [debtXf c 2] q hq hN)
  isplitr; · iexact HR
  isplitl [Hdue]; · iexact Hdue
  isplitl [HO]; · iexact HO
  iapply (mayWait_router (F := F) c d); iexact Hlev
/-- the others', nothing owed. -/
theorem step_last (c : Dev nD) (x : Xf) (q : DmaSem sig) (hq : q = dsem x)
    {S : Shape} {e : EltTy} {src dst : Memref sig .tc .vmem S e} {hsrc : src.view.WordExact} {hdst : dst.view.WordExact} (hN : dst.view.dmaCredit = N x.1)
    {α : Type} {Q : α → sProp 𝕄} {k : PUnit → Prog (TpuEff nD τ sig (Elt F) Λ₀ .tc) α} :
    iprop(records m ρ K ∗ due x c ∗ debts c [])
      ⊢ iprop(((held m ρ x.1 c (if x.2 then peer c else c) ∗ semVal (xcell c x) 0 ∗ debts c []) -∗ run c (k ⟨⟩) Q)
          -∗ run c (.op (.waitDma2 q src dst hsrc hdst) k) Q) := by
  iintro ⟨#HR, Hdue, HO⟩
  iapply (step_wait m ρ K c x [] q hq hN)
  isplitr; · iexact HR
  isplitl [Hdue]; · iexact Hdue
  isplitl [HO]; · iexact HO
  rw [owe_nil, MayWait_zero]; iempintro

/-- The signal to the peer's barrier: the peer's three places here go with it, a debt is paid. -/
theorem step_signal (c n : Dev nD) (hn : n = peer c)
    {α : Type} {Q : α → sProp 𝕄} {k : PUnit → Prog (TpuEff nD τ sig (Elt F) Λ₀ .tc) α} :
    iprop(records m ρ K ∗ dutyTok ER (bcell (peer c)) 0 () ∗ (spot 0 c (peer c) ∗ spot 1 c (peer c) ∗ spot 2 c (peer c)) ∗ debts c (plan c))
      ⊢ iprop((debts c (planX c) -∗ run c (k ⟨⟩) Q) -∗ run c (.op (.semSignal (Dev.tc n : Thread nD τ) barS 1) k) Q) := by
  subst hn
  have hd : () ∈ (Rd (F := F) m ρ).duties (bcell (peer c)) 0 := by rw [duties_bar]; exact Finset.mem_singleton_self _
  unfold debts
  iintro ⟨#HR, Ht, Hown, ⟨%W, HO⟩⟩ Hk
  iapply (Rounds.wp_signal 𝒱₀ ER (Rd m ρ) (c : Thread nD τ) none (dst := (peer c : Thread nD τ)) (κ := K (peer c, none))
      (d := ()) hd (amount_bar m ρ (peer c) ()) () (owe (planX c)) rfl (W := W)) $$ [HO Ht Hown]
  · isplitr; · iapply (inv_at m ρ K (peer c, none)); iexact HR
    isplitl [HO]; · iexact HO
    isplitl [Ht]; · iexact Ht
    isplitl [Hown]
    · rw [payload_bar]; unfold lend; rw [peer_peer]; iexact Hown
    · iapply (reached_at m ρ K (peer c, none)); iexact HR
  iintro HO
  iapply Hk
  iexists W; iexact HO

/-- The wait for the peer: its places arrive, the barrier is back at zero. -/
theorem step_barrier (c : Dev nD)
    {α : Type} {Q : α → sProp 𝕄} {k : PUnit → Prog (TpuEff nD τ sig (Elt F) Λ₀ .tc) α} :
    iprop(records m ρ K ∗ levAts L lv ∗ atPos ER (bcell c) 0 ∅ 0 ∗ cred (tallyAt (bcell c) () 1) ∗ debts c (planX c))
      ⊢ iprop(((lend c ∗ semVal (bcell c) 0 ∗ debts c (planX c)) -∗ run c (k ⟨⟩) Q)
          -∗ run c (.op (.semWait barS 1) k) Q) := by
  have he : 0 + 1 = (Rd (F := F) m ρ).expect (bcell c) 0 := by rw [expect_bar]
  unfold debts
  iintro ⟨#HR, #Hlev, Hat, Hc, ⟨%W, HO⟩⟩ Hk
  iapply (Rounds.wp_wait_rest_token 𝒱₀ ER (Rd m ρ) (c : Thread nD τ) none (κ := K (c, none))
      (wpE_semWait_eq 𝒱₀ (c : Thread nD τ) none Set.univ) (Set.mem_univ _) () (O := owe (planX c)) (W := W) (R := 0) (m := 0) (T := ∅) he) $$ [Hc HO Hat]
  · isplitr; · iapply (inv_at m ρ K (c, none)); iexact HR
    isplitl [Hc]; · iexact Hc
    isplitl [HO]; · iexact HO
    isplitr; · iapply (mayWait_bar (F := F) c); iexact Hlev
    iexact Hat
  iintro ⟨HO, Hat, -, Hpay⟩
  imod (Rounds.cell_close ER (Rd m ρ) (Set.mem_univ (K (c, none))) (fun h => h) (R := 0 + 1) (duties_later m ρ (bcell c))) $$ [Hat] with Hz
  · isplitr; · iapply (inv_at m ρ K (c, none)); iexact HR
    iexact Hat
  ihave Hp := (Entails.of_eq (rest_bar m ρ c)) $$ Hpay
  iapply Hk
  isplitl [Hp]; · iexact Hp
  isplitl [Hz]; · iexact Hz
  iexists _; iexact HO

end Steps

/-! ## The places of a buffer -/

/-- A part read again as a predicate on the reshaped view: the router's part as its transfer addresses it. -/
theorem held_rV (d c : Dev nD) : held m ρ 1 d c = piece (rV c).view d fun f => rM.view.readAt (Elt F) (rR c).toLoadRect f = rs m ρ c :=
  piece_reshape (rM.access (rR c)) _ d _
omit [FloatOps F] in
theorem spot_rV (d c : Dev nD) : (spot 1 d c : sProp 𝕄) = piece (rV c).view d fun _ => True :=
  piece_reshape (rM.access (rR c)) _ d _

omit [FloatOps F] in
/-- Two disjoint views of a buffer covering it, cut; -/
theorem cut_pair {S : Shape} {e : EltTy} (b : Memref sig .tc .vmem S e) (r r' : Rect S) (c : Dev nD) (hd : Disjoint (b.access r).set (b.access r').set)
    (hc : ∀ x : Idx (b.view.loc (c : Thread nD τ)), x ∈ (b.access r).set ∨ x ∈ (b.access r').set) (f : Buf (Elt F) (b.view.loc (c : Thread nD τ))) :
    (b.view.loc (c : Thread nD τ) ↦{fullShare} f : sProp 𝕄) ⊢ iprop(piece (b.access r) c (fun _ => True) ∗ piece (b.access r') c fun _ => True) := by
  have hu : (Finset.univ : Finset (Idx (b.view.loc (c : Thread nD τ)))) = (b.access r).set ∪ (b.access r').set :=
    (Finset.eq_univ_iff_forall.mpr fun x => Finset.mem_union.mpr (hc x)).symm
  rw [hu]
  unfold piece
  iintro H
  ihave H := (pointsTo_union hd).1 $$ H
  icases H with ⟨H1, H2⟩
  isplitl [H1]
  · iexists f
    isplitr; · ipureintro; trivial
    iexact H1
  · iexists f
    isplitr; · ipureintro; trivial
    iexact H2
omit [FloatOps F] in
/-- and joined. -/
theorem join_pair {S : Shape} {e : EltTy} (b : Memref sig .tc .vmem S e) (r r' : Rect S) (c : Dev nD) (hd : Disjoint (b.access r).set (b.access r').set)
    (hc : ∀ x : Idx (b.view.loc (c : Thread nD τ)), x ∈ (b.access r).set ∨ x ∈ (b.access r').set) (P : (b.access r).ty.Contents (Elt F) → Prop) (P' : (b.access r').ty.Contents (Elt F) → Prop) :
    (iprop(piece (b.access r) c P ∗ piece (b.access r') c P') : sProp 𝕄)
      ⊢ iprop(∃ f : Buf (Elt F) (b.view.loc (c : Thread nD τ)),
          ⌜(∃ g, P g ∧ ∀ x ∈ (b.access r).set, f x = g x) ∧ ∃ g, P' g ∧ ∀ x ∈ (b.access r').set, f x = g x⌝ ∗ (b.view.loc (c : Thread nD τ) ↦{fullShare} f)) := by
  have hu : (Finset.univ : Finset (Idx (b.view.loc (c : Thread nD τ)))) = (b.access r).set ∪ (b.access r').set :=
    (Finset.eq_univ_iff_forall.mpr fun x => Finset.mem_union.mpr (hc x)).symm
  rw [hu]
  unfold piece
  iintro ⟨⟨%f, %hf, H1⟩, ⟨%g, %hg, H2⟩⟩
  iexists (b.access r').set.piecewise g f
  isplitr
  · ipureintro
    exact ⟨⟨f, hf, fun x hx => Finset.piecewise_eq_of_notMem _ _ _ (Finset.disjoint_left.mp hd hx)⟩, ⟨g, hg, fun x hx => Finset.piecewise_eq_of_mem _ _ _ hx⟩⟩
  · iapply (pointsTo_join hd)
    isplitl [H1] <;> iassumption

end Cert.GatherIdeal.Exchange

end
-- ==== Proof.GatherIdealSound.lean ====
/-
The gathering call of v07: its body followed from the signal to the last wait, and the pipeline's obligation for it.
-/
module

public import proofs.«01_k».proof.Proof.GatherIdealBody

@[expose] public section

noncomputable section

namespace Cert.GatherIdeal.Exchange

open Cert.GatherIdeal Cert.GatherIdeal.Gen Cert.Owing

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The places lie apart and cover their buffers -/

theorem xH_inb (i : Fin 2) : ∀ a, (![1024 * i.val, 0] : Fin 2 → Nat) a + S1024x1024.size a ≤ S2048x1024.size a := by revert i; decide
theorem gH_inb (i : Fin 2) : ∀ a, (![1024 * i.val, 0] : Fin 2 → Nat) a + S1024x16.size a ≤ S2048x16.size a := by revert i; decide
theorem unit_congr {S : Shape} (o o' sz : Fin S.rank → Nat) (h : ∀ a, o a + sz a ≤ S.size a) (h' : ∀ a, o' a + sz a ≤ S.size a) (e : o = o') :
    Rect.unit (s := S) o sz h = Rect.unit (s := S) o' sz h' := by subst e; rfl
theorem xR_eq (d : Dev nD) : xR d = Rect.unit (s := S2048x1024) ![1024 * (yi d).val, 0] S1024x1024.size (xH_inb (yi d)) := unit_congr _ _ _ _ _ (k0_off1_eq d)
theorem gR_eq (d : Dev nD) : gR d = Rect.unit (s := S2048x16) ![1024 * (yi d).val, 0] S1024x16.size (gH_inb (yi d)) := unit_congr _ _ _ _ _ (k0_off5_eq d)

theorem xR_disjoint (c : Dev nD) : Disjoint (xM.access (xR c)).set (xM.access (xR (peer c))).set := by
  rw [View.set_slice, View.set_slice, xR_eq, xR_eq]
  exact (Finset.disjoint_map _).mpr (Ring.lead_disjoint (s := S2048x1024) (0 : Fin 2) 1024 (fun i : Fin 2 => ![1024 * i.val, 0]) S1024x1024.size xH_inb (fun _ => rfl) rfl _ _ (yi_peer c))
theorem gR_disjoint (c : Dev nD) : Disjoint (gM.access (gR c)).set (gM.access (gR (peer c))).set := by
  rw [View.set_slice, View.set_slice, gR_eq, gR_eq]
  exact (Finset.disjoint_map _).mpr (Ring.lead_disjoint (s := S2048x16) (0 : Fin 2) 1024 (fun i : Fin 2 => ![1024 * i.val, 0]) S1024x16.size gH_inb (fun _ => rfl) rfl _ _ (yi_peer c))
theorem rR_disjoint (c : Dev nD) : Disjoint (rM.access (rR c)).set (rM.access (rR (peer c))).set := by
  rw [View.set_slice, View.set_slice, slot_eq, slot_eq]
  exact (Finset.disjoint_map _).mpr (Ring.lead_disjoint (s := S2x1024x8) (0 : Fin 3) 1 (fun i : Fin 2 => ![i.val, 0, 0]) S1x1024x8.size slot_inb (fun _ => (Nat.one_mul _).symm) rfl _ _ (yi_peer c))

theorem xRow (x : S2048x1024.Idx) : (x 0).val < 2048 := (x 0).isLt
theorem gRow (x : S2048x16.Idx) : (x 0).val < 2048 := (x 0).isLt
/-- Which half a row is of, and its place there. -/
def xHalf (x : S2048x1024.Idx) : Fin 2 := ⟨(x 0).val / 1024, by have := xRow x; omega⟩
def gHalf (x : S2048x16.Idx) : Fin 2 := ⟨(x 0).val / 1024, by have := gRow x; omega⟩
def xPlace (x : S2048x1024.Idx) : S1024x1024.Idx := fun
  | ⟨0, _⟩ => ⟨(x 0).val % 1024, Nat.mod_lt _ (by decide)⟩
  | ⟨1, _⟩ => ⟨(x 1).val, (x 1).isLt⟩
def gPlace (x : S2048x16.Idx) : S1024x16.Idx := fun
  | ⟨0, _⟩ => ⟨(x 0).val % 1024, Nat.mod_lt _ (by decide)⟩
  | ⟨1, _⟩ => ⟨(x 1).val, (x 1).isLt⟩
def rSlot (x : S2x1024x8.Idx) : Fin 2 := ⟨(x 0).val, (x 0).isLt⟩
def rPlace (x : S2x1024x8.Idx) : S1x1024x8.Idx := fun
  | ⟨0, _⟩ => ⟨0, Nat.one_pos⟩
  | ⟨1, _⟩ => ⟨(x 1).val, (x 1).isLt⟩
  | ⟨2, _⟩ => ⟨(x 2).val, (x 2).isLt⟩

theorem x_emb (d : Dev nD) (x : S2048x1024.Idx) (h : yi d = xHalf x) : (xM.access (xR d)).emb (xPlace x) = x := by
  have e : k0_off1 d = ![1024 * ((x 0).val / 1024), 0] := by rw [k0_off1_eq]; exact congrArg (fun i : Fin 2 => ![1024 * i.val, 0]) h
  funext a
  apply Fin.ext
  match a with
  | ⟨0, _⟩ =>
    show k0_off1 d 0 + 1 * ((x 0).val % 1024) = (x 0).val
    rw [e]
    show 1024 * ((x 0).val / 1024) + 1 * ((x 0).val % 1024) = (x 0).val
    omega
  | ⟨1, _⟩ =>
    show k0_off1 d 1 + 1 * (x 1).val = (x 1).val
    rw [e]
    show 0 + 1 * (x 1).val = (x 1).val
    omega
theorem g_emb (d : Dev nD) (x : S2048x16.Idx) (h : yi d = gHalf x) : (gM.access (gR d)).emb (gPlace x) = x := by
  have e : k0_off5 d = ![1024 * ((x 0).val / 1024), 0] := by rw [k0_off5_eq]; exact congrArg (fun i : Fin 2 => ![1024 * i.val, 0]) h
  funext a
  apply Fin.ext
  match a with
  | ⟨0, _⟩ =>
    show k0_off5 d 0 + 1 * ((x 0).val % 1024) = (x 0).val
    rw [e]
    show 1024 * ((x 0).val / 1024) + 1 * ((x 0).val % 1024) = (x 0).val
    omega
  | ⟨1, _⟩ =>
    show k0_off5 d 1 + 1 * (x 1).val = (x 1).val
    rw [e]
    show 0 + 1 * (x 1).val = (x 1).val
    omega
theorem r_emb (d : Dev nD) (x : S2x1024x8.Idx) (h : yi d = rSlot x) : (rM.access (rR d)).emb (rPlace x) = x := by
  have e : k0_off2 d = ![(x 0).val, 0, 0] := by rw [k0_off2_eq]; exact congrArg (fun i : Fin 2 => ![i.val, 0, 0]) h
  funext a
  apply Fin.ext
  match a with
  | ⟨0, _⟩ =>
    show k0_off2 d 0 + 1 * 0 = (x 0).val
    rw [e]; rfl
  | ⟨1, _⟩ =>
    show k0_off2 d 1 + 1 * (x 1).val = (x 1).val
    rw [e]
    show 0 + 1 * (x 1).val = (x 1).val
    omega
  | ⟨2, _⟩ =>
    show k0_off2 d 2 + 1 * (x 2).val = (x 2).val
    rw [e]
    show 0 + 1 * (x 2).val = (x 2).val
    omega

/-- An index's part belongs to the device or to its peer. -/
theorem yi_or (c : Dev nD) (i : Fin 2) : yi c = i ∨ yi (peer c) = i := by revert c i; decide

theorem x_cover (c : Dev nD) (x : S2048x1024.Idx) : x ∈ (xM.access (xR c)).set ∨ x ∈ (xM.access (xR (peer c))).set :=
  (yi_or c (xHalf x)).imp (fun h => by have := View.emb_mem_set (xM.access (xR c)) (xPlace x); rwa [x_emb c x h] at this)
    fun h => by have := View.emb_mem_set (xM.access (xR (peer c))) (xPlace x); rwa [x_emb (peer c) x h] at this
theorem g_cover (c : Dev nD) (x : S2048x16.Idx) : x ∈ (gM.access (gR c)).set ∨ x ∈ (gM.access (gR (peer c))).set :=
  (yi_or c (gHalf x)).imp (fun h => by have := View.emb_mem_set (gM.access (gR c)) (gPlace x); rwa [g_emb c x h] at this)
    fun h => by have := View.emb_mem_set (gM.access (gR (peer c))) (gPlace x); rwa [g_emb (peer c) x h] at this
theorem r_cover (c : Dev nD) (x : S2x1024x8.Idx) : x ∈ (rM.access (rR c)).set ∨ x ∈ (rM.access (rR (peer c))).set :=
  (yi_or c (rSlot x)).imp (fun h => by have := View.emb_mem_set (rM.access (rR c)) (rPlace x); rwa [r_emb c x h] at this)
    fun h => by have := View.emb_mem_set (rM.access (rR (peer c))) (rPlace x); rwa [r_emb (peer c) x h] at this

/-! ## What the buffers hold at the end -/

/-- The gathered x and the gates on device `c`. -/
def outX (c : Dev nD) : (cc0_stg2_0 : Ref sig .tc).ty.Contents (Elt F) := fun x => xs m ρ (mate c (xHalf x)) (xPlace x)
def outG (c : Dev nD) : (cc0_stg3_0 : Ref sig .tc).ty.Contents (Elt F) := fun x => gs m ρ (mate c (gHalf x)) (gPlace x)

omit [FloatOps F] in
theorem read_agree {S : Shape} {e : EltTy} (v : View sig .tc .vmem S e) (f : v.ty.Contents (Elt F)) (w : Vec F S e)
    (h : ∃ g : v.ty.Contents (Elt F), v.read (Elt F) g = w ∧ ∀ x ∈ v.set, f x = g x) : v.read (Elt F) f = w := by
  obtain ⟨g, rfl, h⟩ := h
  funext y
  rw [View.read_apply, View.read_apply, h _ (View.emb_mem_set v y)]

/-- A place's holding, at each of the three buffers. -/
theorem held_x (c d : Dev nD) : (held m ρ 0 c d : sProp 𝕄) = piece (xM.access (xR d)) c fun f => xM.view.readAt (Elt F) (xR d).toLoadRect f = xs m ρ d := rfl
theorem held_r (c d : Dev nD) : (held m ρ 1 c d : sProp 𝕄) = piece (rM.access (rR d)) c fun f => rM.view.readAt (Elt F) (rR d).toLoadRect f = rs m ρ d := rfl
theorem held_g (c d : Dev nD) : (held m ρ 2 c d : sProp 𝕄) = piece (gM.access (gR d)) c fun f => gM.view.readAt (Elt F) (gR d).toLoadRect f = gs m ρ d := rfl

theorem mate_yi (c d : Dev nD) (i : Fin 2) (hd : d = c ∨ d = peer c) (h : yi d = i) : mate c i = d := by
  subst h
  rcases hd with rfl | rfl
  · exact mate_self _
  · rw [← mate_peer]; exact mate_self _

theorem joined_x (c : Dev nD) : iprop(held m ρ 0 c c ∗ held m ρ 0 c (peer c)) ⊢ (((c : Thread nD τ).loc cc0_stg2_0) ↦{fullShare} outX m ρ c : sProp 𝕄) := by
  simp only [held_x]
  iintro H
  ihave H := (join_pair xM (xR c) (xR (peer c)) c (xR_disjoint c) (x_cover c)
    (fun f => xM.view.readAt (Elt F) (xR c).toLoadRect f = xs m ρ c) (fun f => xM.view.readAt (Elt F) (xR (peer c)).toLoadRect f = xs m ρ (peer c))) $$ H
  icases H with ⟨%f, %hf, H⟩
  have e : f = outX m ρ c := by
    have h1 := read_agree (xM.access (xR c)) f (xs m ρ c) hf.1
    have h2 := read_agree (xM.access (xR (peer c))) f (xs m ρ (peer c)) hf.2
    funext x
    unfold outX
    rcases yi_or c (xHalf x) with h | h
    · rw [mate_yi c c _ (Or.inl rfl) h, ← h1]
      show f x = f ((xM.access (xR c)).emb (xPlace x))
      rw [x_emb c x h]
    · rw [mate_yi c (peer c) _ (Or.inr rfl) h, ← h2]
      show f x = f ((xM.access (xR (peer c))).emb (xPlace x))
      rw [x_emb (peer c) x h]
  rw [e]
  iexact H
theorem joined_g (c : Dev nD) : iprop(held m ρ 2 c c ∗ held m ρ 2 c (peer c)) ⊢ (((c : Thread nD τ).loc cc0_stg3_0) ↦{fullShare} outG m ρ c : sProp 𝕄) := by
  simp only [held_g]
  iintro H
  ihave H := (join_pair gM (gR c) (gR (peer c)) c (gR_disjoint c) (g_cover c)
    (fun f => gM.view.readAt (Elt F) (gR c).toLoadRect f = gs m ρ c) (fun f => gM.view.readAt (Elt F) (gR (peer c)).toLoadRect f = gs m ρ (peer c))) $$ H
  icases H with ⟨%f, %hf, H⟩
  have e : f = outG m ρ c := by
    have h1 := read_agree (gM.access (gR c)) f (gs m ρ c) hf.1
    have h2 := read_agree (gM.access (gR (peer c))) f (gs m ρ (peer c)) hf.2
    funext x
    unfold outG
    rcases yi_or c (gHalf x) with h | h
    · rw [mate_yi c c _ (Or.inl rfl) h, ← h1]
      show f x = f ((gM.access (gR c)).emb (gPlace x))
      rw [g_emb c x h]
    · rw [mate_yi c (peer c) _ (Or.inr rfl) h, ← h2]
      show f x = f ((gM.access (gR (peer c))).emb (gPlace x))
      rw [g_emb (peer c) x h]
  rw [e]
  iexact H
theorem joined_r (c : Dev nD) : iprop(held m ρ 1 c c ∗ held m ρ 1 c (peer c))
    ⊢ (iprop(∃ f : Buf (Elt F) ((c : Thread nD τ).loc cc0_scratch0), ((c : Thread nD τ).loc cc0_scratch0) ↦{fullShare} f) : sProp 𝕄) := by
  simp only [held_r]
  iintro H
  ihave H := (join_pair rM (rR c) (rR (peer c)) c (rR_disjoint c) (r_cover c)
    (fun f => rM.view.readAt (Elt F) (rR c).toLoadRect f = rs m ρ c) (fun f => rM.view.readAt (Elt F) (rR (peer c)).toLoadRect f = rs m ρ (peer c))) $$ H
  icases H with ⟨%f, -, H⟩
  iexists f; iexact H

/-- The two columns of the pair, by owner and by y coordinate. -/
theorem slots_eq (c : Dev nD) : (iprop(held m ρ 1 c c ∗ held m ρ 1 c (peer c)) : sProp 𝕄) ⊣⊢
    iprop((piece (rM.access (slotR 0)) c fun f => rM.view.readAt (Elt F) (slotR 0).toLoadRect f = rs m ρ (mate c 0))
      ∗ (piece (rM.access (slotR 1)) c fun f => rM.view.readAt (Elt F) (slotR 1).toLoadRect f = rs m ρ (mate c 1))) := by
  rw [← held_slot m ρ c (mate c 0) 0 (yi_mate c 0), ← held_slot m ρ c (mate c 1) 1 (yi_mate c 1)]
  rcases mate_cases c with ⟨h0, h1⟩ | ⟨h0, h1⟩
  · rw [h0, h1]
  · rw [h0, h1]
    exact sep_comm

/-! ## The pipeline's proof data -/

/-- All of a device's own semaphores at zero. -/
def zeros (c : Dev nD) : sProp 𝕄 := bigSep Finset.univ fun k : Option Xf => semVal (kcell (c, k)) 0
/-- What the barrier takes of a device: a token of the peer's, its own position. -/
def barGear (c : Dev nD) : sProp 𝕄 := iprop(dutyTok ER (bcell (peer c)) 0 () ∗ atPos ER (bcell c) 0 ∅ 0)
/-- The ghost state a device's body works with. -/
def linear (c : Dev nD) : sProp 𝕄 :=
  iprop(barGear c ∗ (bigSep Finset.univ fun k : Fin 3 => gear k c) ∗ bigSep Finset.univ fun k : Fin 3 => atPos ER (xcell c (k, true)) 0 ∅ 0)
/-- The credit it starts with: a unit at its barrier, every landing's bytes. -/
def funds (c : Dev nD) : sProp 𝕄 :=
  iprop(cred (tallyAt (bcell c) () 1) ∗ bigSep Finset.univ fun k : Fin 3 => cred (tallyAt (xcell c (k, true)) () (N k)))
def start (c : Dev nD) : sProp 𝕄 := iprop((∃ K, records m ρ K ∗ linear c) ∗ funds c ∗ levAts L lv)
/-- The router's columns at some contents. -/
def scratch (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m ρ c ∗ scratch c)
def Φ₁ (c : Dev nD) : sProp 𝕄 := iprop(zeros c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => rst m ρ c
    | ⟨2, _⟩ => outX m ρ c
    | ⟨3, _⟩ => outG m ρ c
  Φ t := match t with
    | ⟨0, _⟩ => Φ₀ m ρ c
    | ⟨_ + 1, _⟩ => Φ₁ c
  q _ := fullShare
  owed t := match t with
    | ⟨0, _⟩ => owe (plan c)
    | ⟨_ + 1, _⟩ => 0

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ
theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Families written out -/

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_two (Φ : Bool → sProp 𝕄) : bigSep Finset.univ Φ = iprop(Φ false ∗ Φ true) :=
  bigSep_univ_eq_bigSepL [false, true] (by decide) (by decide) Φ
omit [FloatOps F] in
theorem bigSep_xf (Φ : Xf → sProp 𝕄) : bigSep Finset.univ Φ = bigSep Finset.univ fun k : Fin 3 => iprop(Φ (k, false) ∗ Φ (k, true)) := by
  rw [bigSep_univ_prod]
  exact bigSep_congr fun k _ => bigSep_two _
omit [FloatOps F] in
theorem bigSep_cells (Φ : Option Xf → sProp 𝕄) : bigSep Finset.univ Φ = iprop(Φ none ∗ bigSep Finset.univ fun k : Xf => Φ (some k)) := by
  have e : (Finset.univ : Finset (Option Xf)) = insert none (Finset.univ.map Function.Embedding.some) := by
    ext x; cases x <;> simp
  rw [e, bigSep_insert (by simp), bigSep_map]
  rfl

/-! ## The body -/

section Body

variable (K : Dev nD × Option Xf → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((records m ρ K ∗ levAts L lv ∗ linear c ∗ funds c ∗ scratch c)
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt () t₀.succ ∗ stg c cc0_stg0_0 (xst m ρ c) ∗ stg c cc0_stg1_0 (rst m ρ c) ∗ stg c cc0_stg2_0 (outX m ρ c) ∗ stg c cc0_stg3_0 (outG m ρ c))

set_option maxHeartbeats 4000000 in
set_option maxRecDepth 4000 in
/-- The body, from what a device holds at the start to what it holds at the end. -/
theorem sound_body (c : Dev nD) (Kt : PUnit → sProp 𝕄) :
    iprop(bodyPre m ρ K c ∗ (bodyPost m ρ c -∗ Kt ⟨⟩))
      ⊢ run c (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [run, semSignalWord, semWaitWord, Prog.lift, Prog.bind_op, Prog.bind_ret, Prog.pure_eq_ret, Prog.bind_assoc, wp_deviceId]
  unfold bodyPre scratch linear funds barGear
  rw [bigSep_three, bigSep_three, bigSep_three]
  iintro ⟨⟨⟨#HR, #Hlev, ⟨⟨Hb, Hbat⟩, ⟨Hg0, Hg1, Hg2⟩, ⟨Ha0, Ha1, Ha2⟩⟩, ⟨Hcb, ⟨Hc0, Hc1, Hc2⟩⟩, ⟨%fr, Hr⟩⟩, HO,
      ⟨%_d0, %fx, %hfx, Hx⟩, ⟨%_d1, %fb, %hfb, Hy⟩, ⟨%_d2, %fo, %hfo, Ho⟩, ⟨%_d3, %fg, %hfg, Hg⟩⟩, Hret⟩
  have hx : fx = xst m ρ c := hfx.trans (by unfold Dat.before; rw [if_pos (fetch_0 t₀)]; rfl)
  have hb : fb = rst m ρ c := hfb.trans (by unfold Dat.before; rw [if_pos (fetch_1 t₀)]; rfl)
  subst hx hb
  unfold Dat.owesAt Pipeline.owesWithin
  icases HO with ⟨%W, %_hW, HO⟩
  ihave HO := (show owes (c : Thread nD τ) ((dats m ρ 0 c).owed t₀.castSucc) W ⊢ debts (F := F) c (plan c) from by
    unfold debts; iintro H; iexists W; iexact H) $$ HO
  ihave Ho := (show _ ⊢ iprop((piece (xM.access (xR c)) c fun _ => True) ∗ spot 0 c (peer c)) from cut_pair xM (xR c) (xR (peer c)) c (xR_disjoint c) (x_cover c) fo) $$ Ho
  icases Ho with ⟨X0, X1⟩
  ihave Hg := (show _ ⊢ iprop((piece (gM.access (gR c)) c fun _ => True) ∗ spot 2 c (peer c)) from cut_pair gM (gR c) (gR (peer c)) c (gR_disjoint c) (g_cover c) fg) $$ Hg
  icases Hg with ⟨G0, G1⟩
  ihave Hr := (show _ ⊢ iprop((piece (rM.access (rR c)) c fun _ => True) ∗ spot 1 c (peer c)) from cut_pair rM (rR c) (rR (peer c)) c (rR_disjoint c) (r_cover c) fr) $$ Hr
  icases Hr with ⟨R0, R1⟩
  -- the signal and the wait
  iapply (step_signal m ρ K c _ (dev1_eq c)) $$ [Hb X1 G1 R1 HO]
  · isplitr; · iexact HR
    isplitl [Hb]; · iexact Hb
    isplitl [X1 G1 R1]
    · isplitl [X1]; · iexact X1
      isplitl [R1] <;> iassumption
    iexact HO
  iintro HO
  iapply (step_barrier m ρ K c) $$ [Hbat Hcb HO]
  · isplitr; · iexact HR
    isplitr; · iexact Hlev
    isplitl [Hbat]; · iexact Hbat
    isplitl [Hcb]; · iexact Hcb
    iexact HO
  unfold lend
  iintro ⟨⟨P0, P1, P2⟩, Hzb, HO⟩
  -- x and the router's columns, laid out and sent
  iapply (wp_load 𝒱₀ (c : Thread nD τ) none Set.univ (m := aM) (r := aR.toLoadRect) (Finset.subset_univ _)) $$ Hx; iintro Hx
  iapply (step_fill c xM (xR c) (xs m ρ c)) $$ X0
  iintro X0
  ihave X0 := (BIBase.Entails.of_eq (held_x m ρ c c).symm) $$ X0
  iapply (wp_load 𝒱₀ (c : Thread nD τ) none Set.univ (m := bM) (r := bR.toLoadRect) (Finset.subset_univ _)) $$ Hy; iintro Hy
  iapply (step_fill c rM (rR c) (rs m ρ c)) $$ R0
  iintro R0
  ihave R0 := (BIBase.Entails.of_eq (held_r m ρ c c).symm) $$ R0
  iapply (step_send m ρ K c _ 1 [debtXf c 0, debtXf c 2] (dev2_eq c) (rV c) (fun f => rM.view.readAt (Elt F) (rR c).toLoadRect f = rs m ρ c)
    (fun fs fd h => (copy_read_reshape (rM.access (rR c)) _ fs fd).trans h) (fun d => held_rV m ρ d c) (spot_rV (peer c) c) (credit_r c) (dsem (1, true)) (dsem (1, false)) rfl rfl) $$ [R0 P1 Hg1 HO]
  · isplitr; · iexact HR
    isplitl [R0]; · iexact R0
    isplitl [P1]; · iexact P1
    isplitl [Hg1] <;> iassumption
  iintro ⟨Hs1, HO⟩
  iapply (step_send m ρ K c _ 0 [debtXf c 2] (dev3_eq c) (xV c) (fun f => xM.view.readAt (Elt F) (xR c).toLoadRect f = xs m ρ c)
    (fun fs fd h => (copy_read (xM.access (xR c)) fs fd).trans h) (fun d => rfl) rfl (credit_x c) (dsem (0, true)) (dsem (0, false)) rfl rfl) $$ [X0 P0 Hg0 HO]
  · isplitr; · iexact HR
    isplitl [X0]; · iexact X0
    isplitl [P0]; · iexact P0
    isplitl [Hg0] <;> iassumption
  iintro ⟨Hs0, HO⟩
  -- the router's columns of both devices, and the gates of this one
  iapply (step_router m ρ K c false (dsem (1, false)) rfl (dst := rV c) (credit_r c)) $$ [Hs1 HO]
  · isplitr; · iexact HR
    isplitr; · iexact Hlev
    isplitl [Hs1] <;> iassumption
  iintro ⟨R0, Hzs1, HO⟩
  iapply (step_router m ρ K c true (dsem (1, true)) rfl (dst := rV c) (credit_r c)) $$ [Ha1 Hc1 HO]
  · isplitr; · iexact HR
    isplitr; · iexact Hlev
    isplitl [Ha1 Hc1]; · unfold due; isplitl [Hc1] <;> iassumption
    iexact HO
  iintro ⟨R1, Hzr1, HO⟩
  ihave Hr := (show iprop(held m ρ 1 c c ∗ held m ρ 1 c (peer c)) ⊢ _ from (slots_eq m ρ c).1) $$ [R0 R1]
  · isplitl [R0]; · iexact R0
    iexact R1
  icases Hr with ⟨R0, R1⟩
  iapply (step_read c rM (slotR 0) (rs m ρ (mate c 0))) $$ R0
  iintro R0
  iapply (step_read c rM (slotR 1) (rs m ρ (mate c 1))) $$ R1
  iintro R1
  ihave Hr := (show _ ⊢ iprop(held m ρ 1 c c ∗ held m ρ 1 c (peer c)) from (slots_eq m ρ c).2) $$ [R0 R1]
  · isplitl [R0] <;> iassumption
  iapply (wp_load 𝒱₀ (c : Thread nD τ) none Set.univ (m := aM) (r := aR.toLoadRect) (Finset.subset_univ _)) $$ Hx; iintro Hx
  iapply (step_fill c gM (gR c) (gs m ρ c)) $$ G0
  iintro G0
  ihave G0 := (BIBase.Entails.of_eq (held_g m ρ c c).symm) $$ G0
  iapply (step_send m ρ K c _ 2 [] (dev4_eq c) (gV c) (fun f => gM.view.readAt (Elt F) (gR c).toLoadRect f = gs m ρ c)
    (fun fs fd h => (copy_read (gM.access (gR c)) fs fd).trans h) (fun d => rfl) rfl (credit_g c) (dsem (2, true)) (dsem (2, false)) rfl rfl) $$ [G0 P2 Hg2 HO]
  · isplitr; · iexact HR
    isplitl [G0]; · iexact G0
    isplitl [P2]; · iexact P2
    isplitl [Hg2] <;> iassumption
  iintro ⟨Hs2, HO⟩
  -- the ends of the gates' and of x's transfers
  iapply (step_last m ρ K c (2, false) (dsem (2, false)) rfl (dst := gV c) (credit_g c)) $$ [Hs2 HO]
  · isplitr; · iexact HR
    isplitl [Hs2] <;> iassumption
  iintro ⟨G0, Hzs2, HO⟩
  iapply (step_last m ρ K c (2, true) (dsem (2, true)) rfl (dst := gV c) (credit_g c)) $$ [Ha2 Hc2 HO]
  · isplitr; · iexact HR
    isplitl [Ha2 Hc2]; · unfold due; isplitl [Hc2] <;> iassumption
    iexact HO
  iintro ⟨G1, Hzr2, HO⟩
  iapply (step_last m ρ K c (0, false) (dsem (0, false)) rfl (dst := xV c) (credit_x c)) $$ [Hs0 HO]
  · isplitr; · iexact HR
    isplitl [Hs0] <;> iassumption
  iintro ⟨X0, Hzs0, HO⟩
  iapply (step_last m ρ K c (0, true) (dsem (0, true)) rfl (dst := xV c) (credit_x c)) $$ [Ha0 Hc0 HO]
  · isplitr; · iexact HR
    isplitl [Ha0 Hc0]; · unfold due; isplitl [Hc0] <;> iassumption
    iexact HO
  iintro ⟨X1, Hzr0, HO⟩
  ihave Ho := (joined_x m ρ c) $$ [X0 X1]
  · isplitl [X0]; · iexact X0
    iexact X1
  ihave Hg := (joined_g m ρ c) $$ [G0 G1]
  · isplitl [G0]; · iexact G0
    iexact G1
  ihave Hr := (joined_r m ρ c) $$ Hr
  unfold run; rw [wp_ret]; imodintro
  iapply Hret
  unfold bodyPost Φ₁ zeros scratch debts
  rw [bigSep_cells, bigSep_xf, bigSep_three]
  icases HO with ⟨%W', HO⟩
  isplitl [Hzb Hzs0 Hzr0 Hzs1 Hzr1 Hzs2 Hzr2 Hr]
  · isplitr [Hr]
    · isplitl [Hzb]; · iexact Hzb
      isplitl [Hzs0 Hzr0]; · isplitl [Hzs0] <;> iassumption
      isplitl [Hzs1 Hzr1]; · isplitl [Hzs1] <;> iassumption
      isplitl [Hzs2] <;> iassumption
    iexact Hr
  isplitl [HO]
  · unfold Dat.owesAt Pipeline.owesWithin
    iexists W'
    isplitr; · ipureintro; exact fun _ _ => Or.inl trivial
    iexact HO
  isplitl [Hx]; · iexists _; isplitr; · ipureintro; rfl
                  iexact Hx
  isplitl [Hy]; · iexists _; isplitr; · ipureintro; rfl
                  iexact Hy
  isplitl [Ho]; · iexists _; isplitr; · ipureintro; rfl
                  iexact Ho
  iexists _
  isplitr; · ipureintro; rfl
  iexact Hg

end Body

end Cert.GatherIdeal.Exchange

end
-- ==== Proof.GatherIdealLaunch.lean ====
/-
The gathering call of v07: the pipeline's obligation, the ghost state, the launch, and the run of the whole mesh.
-/
module

public import proofs.«01_k».proof.Proof.GatherIdealSound
public import Idealize.ShloMosaic.Lib.Pipeline.CollectiveSegs
public import Idealize.ShloMosaic.Lib.Quiescent

@[expose] public section

noncomputable section

namespace Cert.GatherIdeal.Exchange

open Cert.GatherIdeal Cert.GatherIdeal.Gen Cert.Owing

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's obligation -/

/-- The body's obligation: from the state before the one iteration to the state after it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show iprop(Φ₀ m ρ c ∗ (dats m ρ 0 c).owesAt () t₀.castSucc
      ∗ (∃ d, stg c cc0_stg0_0 ((dats m ρ 0 c).before (0 : Fin 4) t₀ d))
      ∗ (∃ d, stg c cc0_stg1_0 ((dats m ρ 0 c).before (1 : Fin 4) t₀ d))
      ∗ (∃ d, stg c cc0_stg2_0 ((dats m ρ 0 c).before (2 : Fin 4) t₀ d))
      ∗ (∃ d, stg c cc0_stg3_0 ((dats m ρ 0 c).before (3 : Fin 4) t₀ d)))
    ⊢ run c (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) cc0_scratch1 cc0_scratch2) (fun _ => bodyPost m ρ c)
  unfold Φ₀ start
  iintro ⟨⟨⟨⟨%K, HR, Hl⟩, Hf, Hlev⟩, Hch⟩, Hrest⟩
  iapply (sound_body m ρ K c fun _ => bodyPost m ρ c)
  unfold bodyPre
  isplitr []
  · isplitl [HR Hl Hf Hlev Hch]
    · isplitl [HR]; · iexact HR
      isplitl [Hlev]; · iexact Hlev
      isplitl [Hl]; · iexact Hl
      isplitl [Hf] <;> iassumption
    iexact Hrest
  · iintro H; iexact H

/-! ## The ghost state -/

abbrev osem : Xf → SemLoc sig := fun k => .dma (dsem k)
theorem ownSemFacts : Pipeline.OwnSemFacts cfg0.spec osem := by decide
theorem share_eq (c : Dev nD) (w : Fin cfg0.W) : (dats m ρ 0 c).share w = fullShare := by unfold Dat.share; split <;> rfl

theorem csem_inj {k k' : Option Xf} (h : csem k = csem k') : k = k' := by
  cases k with
  | none => cases k' with
    | none => rfl
    | some k' => cases h
  | some k => cases k' with
    | none => cases h
    | some k' => exact congrArg some (dsem_inj (SemLoc.dma.inj h))
theorem kcell_injective : Function.Injective (kcell : Dev nD × Option Xf → GSem nD τ sig) := by
  rintro ⟨c, k⟩ ⟨c', k'⟩ h
  have h1 : c = c' := congrArg (fun g : GSem nD τ sig => g.1.1) h
  subst h1
  have h2 : k = k' := csem_inj (congrArg Prod.snd h)
  subst h2; rfl
def cells : Finset (GSem nD τ sig) := Finset.univ.map ⟨kcell, kcell_injective⟩

/-- Every cell's one duty token. -/
abbrev tokOf (x : Dev nD × Option Xf) : GSem nD τ sig × ℕ × Unit := (kcell x, 0, ())
theorem tokOf_injective : Function.Injective (tokOf : Dev nD × Option Xf → GSem nD τ sig × ℕ × Unit) := fun _ _ h => kcell_injective (congrArg Prod.fst h)
def mintToks : Finset (GSem nD τ sig × ℕ × Unit) := Finset.univ.map ⟨tokOf, tokOf_injective⟩

def u₀ : UU := (initOf (Pipeline.cells cfgs cellOf_inj) (Pipeline.launchToks cfgs cellOf_inj), initOf cells mintToks)

def toks (c : Dev nD) : sProp 𝕄 := bigSep Finset.univ fun k : Option Xf => dutyTok ER (kcell (c, k)) 0 ()
def G (c : Dev nD) : sProp 𝕄 :=
  iprop((bigSep Finset.univ fun k : Option Xf => roundState ER (Rd m ρ) (kcell (c, k)) 0)
    ∗ (bigSep Finset.univ fun k : Option Xf => iprop(atPos ER (kcell (c, k)) 0 ∅ 0 ∗ reached ER (kcell (c, k)) 0)) ∗ toks c)
def G' (c : Dev nD) : sProp 𝕄 := iprop(∃ K, records m ρ K ∗ linear c)

/-- The cells' state and tokens are minted at the start. -/
theorem fund_ring : BI.own (ER (initOf cells mintToks)) ⊢ (|==> bigSep Finset.univ (G m ρ) : sProp 𝕄) := by
  have hX (Φ : GSem nD τ sig → sProp 𝕄) : bigSep cells Φ = bigSep Finset.univ fun c : Dev nD => bigSep Finset.univ fun k : Option Xf => Φ (kcell (c, k)) := by
    unfold cells; rw [bigSep_map, bigSep_univ_prod]; rfl
  have hT : bigSep mintToks (fun x => (dutyTok ER x.1 x.2.1 x.2.2 : sProp 𝕄)) = bigSep Finset.univ fun c : Dev nD => toks c := by
    unfold mintToks; rw [bigSep_map, bigSep_univ_prod]; rfl
  iintro HX
  imod (Rounds.fund ER (Rd m ρ) cells mintToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Xf => semVal (kcell (c, some k)) 0 := rfl
omit [FloatOps F] in
theorem unscopedSems0_eq (c : Dev nD) : (unscopedSems0 c : sProp 𝕄) = semVal (bcell c) 0 := by
  unfold unscopedSems0; rw [bigSep_eq_bigSepL_of_eq [SemLoc.reg barS] (by decide) (by decide)]; rfl
omit [FloatOps F] in
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  unfold zeros; rw [bigSep_cells, unscopedSems0_eq, ownSems0_eq]

/-- A device's semaphores become cells under invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (zeros_eq (F := F) c).symm) $$ [Hos Hus]
  · isplitl [Hus] <;> iassumption
  imod (show iprop(zeros c ∗ bigSep Finset.univ fun k : Option Xf => roundState ER (Rd m ρ) (kcell (c, k)) 0)
      ⊢ (|={Set.univ}=> bigSep Finset.univ fun k => iprop(∃ κ : ℕ, cellInv ER (Rd m ρ) κ (kcell (c, k))) : sProp 𝕄) from by
        unfold zeros
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt out -/

/-- The peers, for every transfer at once. -/
def dealEquiv : Dev nD × Fin 3 ≃ Dev nD × Fin 3 :=
  ⟨fun x => (peer x.1, x.2), fun x => (peer x.1, x.2), fun x => Prod.ext (peer_peer _) rfl, fun x => Prod.ext (peer_peer _) rfl⟩

/-- The tokens of a device's payments: into its peer's barrier, its own departures and its peer's landings. -/
def payToks (c : Dev nD) : sProp 𝕄 :=
  iprop(dutyTok ER (bcell (peer c)) 0 () ∗ (bigSep Finset.univ fun k : Fin 3 => dutyTok ER (xcell c (k, false)) 0 ())
    ∗ bigSep Finset.univ fun k : Fin 3 => dutyTok ER (xcell (peer c) (k, true)) 0 ())

omit [FloatOps F] in
theorem toks_around : (bigSep Finset.univ fun c : Dev nD => (toks c : sProp 𝕄)) = bigSep Finset.univ fun c : Dev nD => payToks c := by
  unfold toks payToks
  rw [bigSep_congr (s := Finset.univ) fun (c : Dev nD) _ => bigSep_cells (fun k : Option Xf => (dutyTok ER (kcell (c, k)) 0 () : sProp 𝕄)),
    bigSep_congr (s := Finset.univ) fun (c : Dev nD) _ => congrArg (fun P => iprop(dutyTok ER (kcell (c, none)) 0 () ∗ P)) (bigSep_xf (fun k : Xf => (dutyTok ER (kcell (c, some k)) 0 () : sProp 𝕄)))]
  simp only [bigSep_sep']
  rw [bigSep_univ_equiv swap (fun c : Dev nD => (dutyTok ER (kcell (c, none)) 0 () : sProp 𝕄)),
    ← bigSep_univ_prod (fun x : Dev nD × Fin 3 => (dutyTok ER (kcell (x.1, some (x.2, true))) 0 () : sProp 𝕄)),
    bigSep_univ_equiv dealEquiv (fun x : Dev nD × Fin 3 => (dutyTok ER (kcell (x.1, some (x.2, true))) 0 () : sProp 𝕄)), bigSep_univ_prod]
  rfl

omit [FloatOps F] in
theorem linear_intro (c : Dev nD) : iprop((bigSep Finset.univ fun k : Option Xf => atPos ER (kcell (c, k)) 0 ∅ 0) ∗ payToks c) ⊢ (linear c : sProp 𝕄) := by
  unfold linear payToks barGear gear
  rw [bigSep_cells, bigSep_xf, bigSep_sep', bigSep_sep', bigSep_sep']
  iintro ⟨⟨Hb, Hs, Hr⟩, H1, H2, H3⟩
  isplitl [Hb H1]
  · isplitl [H1] <;> iassumption
  isplitr [Hr]
  · isplitl [H2]; · iexact H2
    isplitl [H3] <;> iassumption
  iexact Hr

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option Xf => iprop(∃ κ : ℕ, cellInv ER (Rd m ρ) κ (kcell ck))),
    bigSep_congr (s := Finset.univ) (fun (c : Dev nD) _ => bigSep_sep' Finset.univ (fun k : Option Xf => (atPos ER (kcell (c, k)) 0 ∅ 0 : sProp 𝕄)) (fun k => reached ER (kcell (c, k)) 0)),
    bigSep_sep', ← bigSep_univ_prod (fun ck : Dev nD × Option Xf => (reached ER (kcell ck) 0 : sProp 𝕄))]
  iintro ⟨HI, ⟨Hat, #HR⟩, Htok⟩
  ihave HK := (BI.bigSep_exists_pi Finset.univ (fun (ck : Dev nD × Option Xf) (κ : ℕ) => (cellInv ER (Rd m ρ) κ (kcell ck) : sProp 𝕄))) $$ HI
  icases HK with ⟨%K, #HI⟩
  ihave Htk := (Entails.of_eq (toks_around (F := F))) $$ Htok
  iapply (Cert.Owing.bigSep_with_persistent (R := records m ρ K) (Φ := linear) (Ψ := G' m ρ) fun c _ => show iprop(records m ρ K ∗ linear c) ⊢ G' m ρ c from by
    unfold G'; iintro H; iexists K; iexact H)
  isplitr
  · unfold records; isplitl; · iexact HI
    iexact HR
  · iapply ((Entails.of_eq (bigSep_sep' Finset.univ (fun c : Dev nD => bigSep Finset.univ fun k : Option Xf => (atPos ER (kcell (c, k)) 0 ∅ 0 : sProp 𝕄)) payToks).symm).trans
      (bigSep_mono fun c _ => linear_intro (F := F) c))
    isplitl [Hat]; · iexact Hat
    iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What every device owes at the start. -/
def O₀ (c : Dev nD) : CellTallies nD τ sig Unit := owe (plan c)

theorem kcell_eq_iff (a b : Dev nD) (k k' : Option Xf) : Iff (kcell (a, k) = kcell (b, k')) (a = b ∧ k = k') :=
  ⟨fun h => Prod.mk.inj (kcell_injective h), fun h => by rw [h.1, h.2]⟩
theorem eq_peer_iff (a b : Dev nD) : Iff (a = peer b) (b = peer a) :=
  ⟨fun h => by rw [h, peer_peer], fun h => by rw [h, peer_peer]⟩

theorem owed_bar (d c : Dev nD) : O₀ d (bcell c) () = if d = peer c then 1 else 0 := by
  unfold O₀
  rw [owe_apply]
  simp [plan, planX, debtBar, debtXf, kcell_eq_iff, eq_peer_iff c d]
theorem owed_land (d c : Dev nD) (k : Fin 3) : O₀ d (xcell c (k, true)) () = if d = peer c then N k else 0 := by
  unfold O₀
  rw [owe_apply]
  fin_cases k <;> simp [plan, planX, debtBar, debtXf, kcell_eq_iff, eq_peer_iff c d]

theorem launch_bar (c : Dev nD) :
    tallyOn (bcell c) (launchCredit (Pipeline.owing O₀) 0 (bcell c)) = (tallyAt (bcell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]
theorem launch_land (c : Dev nD) (k : Fin 3) :
    tallyOn (xcell c (k, true)) (launchCredit (Pipeline.owing O₀) 0 (xcell c (k, true))) = (tallyAt (xcell c (k, true)) () (N k) : CellTallies nD τ sig Unit) := by
  unfold tallyAt; refine congrArg _ (Finsupp.ext fun u => ?_); cases u
  rw [Pipeline.launchCredit_owing, Finsupp.single_eq_same, Finset.sum_congr rfl fun d _ => owed_land d c k, Finset.sum_ite_eq' Finset.univ (peer c) fun _ => N k,
    if_pos (Finset.mem_univ _)]

theorem landSem_inj : Function.Injective (fun k : Fin 3 => (csem (some (k, true)) : SemLoc sig)) := by
  intro k k' h
  have h1 := csem_inj h
  cases h1; rfl

omit [FloatOps F] in
theorem creds (c : Dev nD) : (Pipeline.launchCred O₀ c : sProp 𝕄) ⊢ funds c := by
  unfold Pipeline.launchCred funds
  rw [bigSep_univ_at _ (SemLoc.reg barS), launch_bar]
  refine sep_mono_right ?_
  refine (bigSep_subset (t := Finset.univ.map ⟨_, landSem_inj⟩) ?_).trans ?_
  · intro s hs
    obtain ⟨a, -, rfl⟩ := Finset.mem_map.mp hs
    exact Finset.mem_erase.mpr ⟨(fun h => by cases h), Finset.mem_univ _⟩
  · rw [bigSep_map]
    exact bigSep_mono fun k _ => Entails.of_eq (congrArg cred (launch_land c k))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, H⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [zeros_eq]
  iintro ⟨⟨HzB, Hz⟩, H⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every weakly fair run of the four devices ends, each array of the call
    holding the contents computed, and every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.GatherIdeal.Exchange

end
-- ==== Proof.GatherIdealFrame.lean ====
/-
The arrays after the gathering call: the arguments as they were, the results what the body left in their staging buffers; and the
run with the values dropped.
-/
module

public import proofs.«01_k».proof.Proof.GatherIdealLaunch

@[expose] public section

noncomputable section

namespace Cert.GatherIdeal.Exchange

open Cert.GatherIdeal Cert.GatherIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

set_option maxRecDepth 20000 in
omit [FloatOps F] in
/-- The staged block of x is the device's whole block. -/
theorem xst_eq (c : Dev nD) : xst m ρ c = m ((c : Thread nD τ).loc main_arg0) := by
  funext i
  show m ((c : Thread nD τ).loc main_arg0) _ = m ((c : Thread nD τ).loc main_arg0) i
  congr 1
  funext a
  apply Fin.ext
  match a with
  | ⟨0, _⟩ => show 0 + 1 * (i 0).val = (i 0).val; omega
  | ⟨1, _⟩ => show 0 + 1 * (i 1).val = (i 1).val; omega

set_option maxRecDepth 20000 in
omit [FloatOps F] in
/-- The staged block of the router's columns is the device's whole block. -/
theorem rst_eq (c : Dev nD) : rst m ρ c = m ((c : Thread nD τ).loc main_arg1) := by
  funext i
  show m ((c : Thread nD τ).loc main_arg1) _ = m ((c : Thread nD τ).loc main_arg1) i
  congr 1
  funext a
  apply Fin.ext
  match a with
  | ⟨0, _⟩ => show 0 + 1 * (i 0).val = (i 0).val; omega
  | ⟨1, _⟩ => show 0 + 1 * (i 1).val = (i 1).val; omega

/-- The result arrays, whole, are what the body left in their staging buffers. -/
theorem finalA_x (c : Dev nD) : finalA m ρ c (2 : Fin 4) = outX m ρ c := by
  have h : (win0_2.blk (0 : Fin 1)).view.read (Elt F) (finalA m ρ c (2 : Fin 4)) = outX m ρ c := by
    unfold finalA
    rw [show cfg0.N = ((0 : Fin 1) : Fin cfg0.N).val + 1 from rfl, (dats m ρ 0 c).arrAt_succ (2 : Fin 4) (0 : Fin 1)]
    rw [show (cfg0.win (2 : Fin 4)).flush (0 : Fin 1) = true from by decide, if_pos rfl]
    exact View.read_write_univ _ _
  rw [← h]
  funext i
  show finalA m ρ c (2 : Fin 4) i = finalA m ρ c (2 : Fin 4) _
  congr 1
  funext a
  apply Fin.ext
  match a with
  | ⟨0, _⟩ => show (i 0).val = 0 + 1 * (i 0).val; omega
  | ⟨1, _⟩ => show (i 1).val = 0 + 1 * (i 1).val; omega
theorem finalA_g (c : Dev nD) : finalA m ρ c (3 : Fin 4) = outG m ρ c := by
  have h : (win0_3.blk (0 : Fin 1)).view.read (Elt F) (finalA m ρ c (3 : Fin 4)) = outG m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  rw [← h]
  funext i
  show finalA m ρ c (3 : Fin 4) i = finalA m ρ c (3 : Fin 4) _
  congr 1
  funext a
  apply Fin.ext
  match a with
  | ⟨0, _⟩ => show (i 0).val = 0 + 1 * (i 0).val; omega
  | ⟨1, _⟩ => show (i 1).val = 0 + 1 * (i 1).val; omega

/-- The argument arrays are as they were. -/
theorem finalA_a0 (c : Dev nD) : finalA m ρ c (0 : Fin 4) = m ((c : Thread nD τ).loc main_arg0) :=
  (dats (F := F) m ρ 0 c).arrAt_in (0 : Fin 4) rfl _
theorem finalA_a1 (c : Dev nD) : finalA m ρ c (1 : Fin 4) = m ((c : Thread nD τ).loc main_arg1) :=
  (dats (F := F) m ρ 0 c).arrAt_in (1 : Fin 4) rfl _

/-- The run with the values dropped: the arguments unchanged, every semaphore back at zero. -/
theorem run_frame : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun _ h => ⟨fun c => ⟨(h.1 c 0).trans (finalA_a0 m ρ c), (h.1 c 1).trans (finalA_a1 m ρ c)⟩, h.2⟩) (run_main m ρ)

end Cert.GatherIdeal.Exchange

end
-- ==== Proof.GatherIdealValue.lean ====
/-
What the gathering call computes, in exact arithmetic: every device ends with the whole of x, rounded, and with the whole product
of x and the router.

A device holds half of the rows of x and half of the columns of the router. The pair along y shares the columns, each device
multiplies its own rows with all of them, and the pair shares x and the products.
-/
module

public import proofs.«01_k».proof.Proof.GatherIdealFrame
public import proofs.«01_k».proof.Proof.Gen.GatherRefIdeal.Run
public import Idealize.ShloMosaic.Lib.Pointwise
public import Idealize.ShloMosaic.Lib.Layout
public import proofs.«01_k».proof.Defs

@[expose] public section

noncomputable section

namespace Cert.GatherIdeal.Exchange

open Cert.GatherIdeal Cert.GatherIdeal.Gen
open Idealize.ShloMosaic Idealize.ShloMosaic.TcCoe Idealize.SL.Sem
open Idealize.ShloMosaic.Pipeline (Dat Cfg Window)

/-! ## In exact arithmetic -/

section exact

variable (m : (ℓ : Loc nD τ sig) → Buf (Elt Ideal) ℓ) (ρ : Dev nD → PrngReg)

/-- Device `c`'s blocks of the two arguments. -/
abbrev xA (c : Dev nD) : S1024x1024.Idx → EReal := m ((c : Thread nD τ).loc main_arg0)
abbrev rA (c : Dev nD) : S1024x8.Idx → EReal := m ((c : Thread nD τ).loc main_arg1)

theorem a_at (c : Dev nD) (r k : Fin 1024) : (aM.view.readAt (Elt Ideal) aR.toLoadRect (xst m ρ c) (ix2 r k) : EReal) = xA m c (ix2 r k) := by
  rw [xst_eq]
  show xA m c _ = _
  congr 1
  funext a
  apply Fin.ext
  match a with
  | ⟨0, _⟩ => show 0 + 1 * r.val = r.val; omega
  | ⟨1, _⟩ => show 0 + 1 * k.val = k.val; omega

theorem b_at (c : Dev nD) (k : Fin 1024) (q : Fin 8) : (bM.view.readAt (Elt Ideal) bR.toLoadRect (rst m ρ c) (ix2 k q) : EReal) = rA m c (ix2 k q) := by
  rw [rst_eq]
  show rA m c _ = _
  congr 1
  funext a
  apply Fin.ext
  match a with
  | ⟨0, _⟩ => show 0 + 1 * k.val = k.val; omega
  | ⟨1, _⟩ => show 0 + 1 * q.val = q.val; omega

theorem xs_apply (c : Dev nD) (r k : Fin 1024) : (xs m ρ c (ix2 r k) : EReal) = xA m c (ix2 r k) := by
  rw [← a_at m ρ]
  unfold xs
  pointwise [k0_pay1]

theorem rs_apply (c : Dev nD) (k : Fin 1024) (q : Fin 8) : (rs m ρ c (ix3 0 k q) : EReal) = rA m c (ix2 k q) := by
  rw [← b_at m ρ]
  unfold rs
  pointwise [k0_pay2]

variable (X : Cert.GatherRefIdeal.S2048x1024.Idx → EReal) (R : Cert.GatherRefIdeal.S1024x16.Idx → EReal)

/-- An entry of the product of x and the router, on extended reals. -/
def gate (r : Fin 2048) (q : Fin 16) : EReal := ∑ k : Fin 1024, X (ix2 r k) * R (ix2 k q)

variable (hX : ∀ c, xA m c = Layout.blockN ⟨2, ![1024, 1024]⟩ ⟨2, ![2048, 1024]⟩ (Layout.meshBlock [2, 2] ![[1], []] c) X)
variable (hR : ∀ c, rA m c = Layout.blockN ⟨2, ![1024, 8]⟩ ⟨2, ![1024, 16]⟩ (Layout.meshBlock [2, 2] ![[], [1]] c) R)

theorem lin_y (c : Dev nD) : Layout.meshLin [2, 2] c.val [1] = (yi c).val := by revert c; decide

include hX in
theorem xA_apply (c : Dev nD) (i : Fin 2) (hc : yi c = i) (r : Fin 1024) (k : Fin 1024) (r' : Fin 2048) (h : r'.val = 1024 * i.val + r.val) :
    xA m c (ix2 r k) = X (ix2 r' k) := by
  rw [hX c, Layout.blockN_apply]
  congr 1
  funext a
  apply Fin.ext
  rw [Layout.TilesN.idx_val]
  match a with
  | ⟨0, _⟩ =>
    show Layout.meshLin [2, 2] c.val [1] * 1024 + r.val = r'.val
    rw [lin_y, hc, h]; omega
  | ⟨1, _⟩ => show 0 * 1024 + k.val = k.val; omega

include hR in
theorem rA_apply (c : Dev nD) (i : Fin 2) (hc : yi c = i) (k : Fin 1024) (q : Fin 8) (q' : Fin 16) (h : q'.val = 8 * i.val + q.val) :
    rA m c (ix2 k q) = R (ix2 k q') := by
  rw [hR c, Layout.blockN_apply]
  congr 1
  funext a
  apply Fin.ext
  rw [Layout.TilesN.idx_val]
  match a with
  | ⟨0, _⟩ => show 0 * 1024 + k.val = k.val; omega
  | ⟨1, _⟩ =>
    show Layout.meshLin [2, 2] c.val [1] * 8 + q.val = q'.val
    rw [lin_y, hc, h]; omega

include hX hR in
/-- A device's gates: its rows of x times all the columns. -/
theorem gs_apply (c : Dev nD) (i : Fin 2) (hc : yi c = i) (r : Fin 1024) (q : Fin 16) (r' : Fin 2048) (h : r'.val = 1024 * i.val + r.val) :
    (gs m ρ c (ix2 r q) : EReal) = gate X R r' q := by
  unfold gs gate
  pointwise [k0_pay3]
  refine Finset.sum_congr rfl fun k _ => congrArg₂ (· * ·) ((a_at m ρ c r k).trans (xA_apply m X hX c i hc r k r' h)) ?_
  split
  · rename_i hq
    exact (rs_apply m ρ _ k ⟨q.val, hq⟩).trans (rA_apply m R hR _ 0 (yi_mate c 0) k _ q (by show q.val = 8 * 0 + q.val; omega))
  · rename_i hq
    have hq' : 8 ≤ q.val := Nat.le_of_not_lt hq
    exact (rs_apply m ρ _ k ⟨q.val - 8, by omega⟩).trans (rA_apply m R hR _ 1 (yi_mate c 1) k _ q (by show q.val = 8 * 1 + (q.val - 8); omega))

include hX in
/-- Every device ends with the whole of x; -/
theorem outX_apply (c : Dev nD) (x : S2048x1024.Idx) : (outX m ρ c x : EReal) = X (ix2 (x 0) (x 1)) := by
  have hx : xPlace x = ix2 ⟨(x 0).val % 1024, Nat.mod_lt _ (by decide)⟩ (x 1) := by
    funext a
    match a with
    | ⟨0, _⟩ => rfl
    | ⟨1, _⟩ => rfl
  refine ((congrArg (xs m ρ (mate c (xHalf x))) hx).trans (xs_apply m ρ _ _ _)).trans ?_
  exact xA_apply m X hX _ _ (yi_mate c (xHalf x)) _ _ (x 0) (by show (x 0).val = 1024 * ((x 0).val / 1024) + (x 0).val % 1024; omega)

include hX hR in
/-- and with all the gates. -/
theorem outG_apply (c : Dev nD) (x : S2048x16.Idx) : (outG m ρ c x : EReal) = gate X R (x 0) (x 1) := by
  have hx : gPlace x = ix2 ⟨(x 0).val % 1024, Nat.mod_lt _ (by decide)⟩ (x 1) := by
    funext a
    match a with
    | ⟨0, _⟩ => rfl
    | ⟨1, _⟩ => rfl
  refine (congrArg (gs m ρ (mate c (gHalf x))) hx).trans ?_
  exact gs_apply m ρ X R hX hR _ _ (yi_mate c (gHalf x)) _ _ (x 0) (by show (x 0).val = 1024 * ((x 0).val / 1024) + (x 0).val % 1024; omega)

end exact

/-- The reference's results at an index. -/
theorem reference_x (X : FVec Ideal Cert.GatherRefIdeal.S2048x1024 .f32) (j : Cert.GatherRefIdeal.S2048x1024.Idx) :
    ((truncf .bf16 X Cert.GatherRefIdeal.Gen.bitsLt_bf16_f32 : FVec Ideal Cert.GatherRefIdeal.S2048x1024 .bf16) j : EReal) = X (ix2 (j 0) (j 1)) := by
  pointwise
theorem reference_g (X : FVec Ideal Cert.GatherRefIdeal.S2048x1024 .f32) (R : FVec Ideal Cert.GatherRefIdeal.S1024x16 .f32) (j : Cert.GatherRefIdeal.S2048x16.Idx) :
    ((Host.dotGeneral Cert.GatherRefIdeal.dot_S2048x1024_S1024x16_S2048x16_1_0_0_1_n_n none X R : FVec Ideal Cert.GatherRefIdeal.S2048x16 .f32) j : EReal)
      = gate X R (j 0) (j 1) := by
  pointwise
  rfl

/-- In exact arithmetic the call and the plain lines agree: every device ends with x, rounded, and with `x @ router`. -/
theorem algebraic : Cert.algebraic_GatherIdeal_GatherRefIdeal := by
  intro m g m' g' _ hagree
  refine ⟨_, _, ?_, (θ_run _ _ _).mono (fun _ h => h 0) (Cert.GatherRefIdeal.Value.run m' g')⟩
  refine (θ_run _ _ _).mono (fun r h c => ⟨?_, ?_, (h.1 c 0).trans (finalA_a0 m g c), (h.1 c 1).trans (finalA_a1 m g c)⟩) (run_main m g)
  · refine ((h.1 c 2).trans (finalA_x m g c)).trans ?_
    funext x
    exact (outX_apply m g _ (fun c => (hagree c).1) c x).trans (reference_x _ x).symm
  · refine ((h.1 c 3).trans (finalA_g m g c)).trans ?_
    funext x
    exact (outG_apply m g _ _ (fun c => (hagree c).1) (fun c => (hagree c).2) c x).trans (reference_g _ _ x).symm

end Cert.GatherIdeal.Exchange

end
-- ==== Proof.ExpertIdealBody.lean ====
/-
The feed-forward call of v07: its body at one grid point.

The body works on whole buffers, so a load reads what a buffer holds and a store puts its vector there. At the first of an
expert's two points the body fills the scratch buffer with the gathered rows of the tokens and starts the result from zero;
at both it adds one half of the hidden columns.
-/
module

public import proofs.«01_k».proof.Proof.Gen.ExpertIdeal
public import proofs.«01_k».proof.Proof.Gen.ExpertIdeal.Skeleton
public import proofs.«01_k».proof.Proof.Gen.ExpertIdeal.Launch
public import proofs.«01_k».proof.Proof.Gen.ExpertIdeal.Regions
public import Idealize.ShloMosaic.Lib.Quiescent
public import Idealize.ShloMosaic.Lib.Pipeline.Quiescent
public import Idealize.ShloMosaic.Lib.Pipeline.Frame
public import Idealize.ShloMosaic.Lib.Pipeline.FrameBody

@[expose] public section

noncomputable section

namespace Cert.ExpertIdeal.Ffn

open Cert.ExpertIdeal Cert.ExpertIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources are those of the pipeline's rounds alone: the call exchanges nothing. -/
abbrev UU : Type := UR sig nD τ

local notation "𝕄" => MT nD τ sig Unit (Elt F) ℕ UU ℕ

abbrev EP : Emb UU (MT nD τ sig Unit (Elt F) ℕ UU ℕ) := emb₁

abbrev 𝒱₀ : Variants := Variants.none

/-- The weakest precondition of a piece of a device's body. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A whole buffer of the vector memory holding `X`. -/
abbrev has (c : Dev nD) {S : Shape} {e : EltTy} (M : Memref sig .tc .vmem S e) (X : Vec F S e) : sProp 𝕄 :=
  owns (c : Thread nD τ) M fullShare X

omit [FloatOps F] in
/-- A whole buffer written all over reads as what was written. -/
theorem read_write_whole {sp : Space} {S : Shape} {e : EltTy} (M : Memref sig .tc sp S e) (hM : M.IsWhole)
    {off : Fin S.rank → Nat} (ho : off = fun _ => 0) (inb : ∀ a, off a + S.size a ≤ S.size a) (f : M.view.ty.Contents (Elt F)) (w : Vec F S e) :
    M.view.read (Elt F) ((M.access (Rect.unit (s := S) off S.size inb)).write (Elt F) f w Finset.univ) = w := by
  obtain ⟨b, rfl, rfl, rfl, hb⟩ := hM
  obtain rfl := eq_of_heq hb
  rw [Memref.write_access_unit_zero_univ (Elt F) b ho inb f w]
  rfl

/-- A load of a whole buffer reads what it holds. -/
theorem step_load (c : Dev nD) {S : Shape} {e : EltTy} (M : Memref sig .tc .vmem S e) (hM : M.IsWhole) (X : Vec F S e)
    {off : Fin S.rank → Nat} (ho : off = fun _ => 0) (inb : ∀ a, off a + S.size a ≤ S.size a)
    {hl : M.view.LoadsAt (Rect.unit (s := S) off S.size inb).toLoadRect} {α : Type} {Q : α → sProp 𝕄}
    {k : Vec F S e → Prog (TpuEff nD τ sig (Elt F) Λ₀ .tc) α} :
    has c M X ⊢ iprop((has c M X -∗ run c (k X) Q) -∗ run c (.op (.load M (Rect.unit (s := S) off S.size inb).toLoadRect hl) k) Q) := by
  unfold has owns
  iintro ⟨%f, %hf, H⟩ Hk
  iapply (wp_load_rect 𝒱₀ (c : Thread nD τ) none Set.univ (m := M) (r := Rect.unit (s := S) off S.size inb) (S := M.view.set)
    (by rw [hM.set_eq_univ]; exact Finset.subset_univ _)) $$ H
  iintro H
  rw [show (M.access (Rect.unit (s := S) off S.size inb)).read (Elt F) f = X from by
    subst ho; rw [← hf]; funext j
    show M.view.read (Elt F) f _ = M.view.read (Elt F) f j
    congr 1; funext a; apply Fin.ext; show 0 + 1 * (j a).val = (j a).val; omega]
  iapply Hk
  iexists f
  isplitr
  · ipureintro; exact hf
  · iexact H

/-- A store into a whole buffer leaves its vector there. -/
theorem step_store (c : Dev nD) {S : Shape} {e : EltTy} (M : Memref sig .tc .vmem S e) (hM : M.IsWhole) (X w : Vec F S e)
    {off : Fin S.rank → Nat} (ho : off = fun _ => 0) (inb : ∀ a, off a + S.size a ≤ S.size a)
    {hx : (M.access (Rect.unit (s := S) off S.size inb)).Stores Finset.univ}
    {hm : (Finset.univ : Finset (Rect.unit (s := S) off S.size inb).shape.Idx) = Finset.univ ∨ ∀ a, (Rect.unit (s := S) off S.size inb).stride a = 1}
    {α : Type} {Q : α → sProp 𝕄} {k : PUnit → Prog (TpuEff nD τ sig (Elt F) Λ₀ .tc) α} :
    has c M X ⊢ iprop((has c M w -∗ run c (k ⟨⟩) Q) -∗ run c (.op (.store M (Rect.unit (s := S) off S.size inb) w Finset.univ hx hm) k) Q) := by
  unfold has owns
  iintro ⟨%f, %hf, H⟩ Hk
  iapply (wp_store 𝒱₀ (c : Thread nD τ) none Set.univ (m := M) (r := Rect.unit (s := S) off S.size inb) (Mk := Finset.univ) (S := M.view.set)
    (by rw [hM.set_eq_univ]; exact Finset.subset_univ _)) $$ H
  iintro H
  iapply Hk
  iexists _
  isplitr
  · ipureintro
    show M.view.read (Elt F) ((M.access (Rect.unit (s := S) off S.size inb)).write (Elt F) f w Finset.univ) = w
    exact read_write_whole M hM ho inb f w
  · iexact H

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body asks whether it is at an expert's first point. -/
abbrev first (i : grid0.Coords) : Prop :=
  Scalar.cmpi .ne (Scalar.extui (Scalar.cmpi .eq (BitVec.ofNat 32 (i 1).val) 0#32)) 0#32 = 1#1

section Body

variable (c : Dev nD) (i : grid0.Coords) (a2 : Memref sig .tc .smem S1 .i32) (h2 : a2.IsWhole)
  (a3 : Memref sig .tc .vmem S2048x1024 .bf16) (h3 : a3.IsWhole) (a4 : Memref sig .tc .vmem S1x320x2048 .bf16) (h4 : a4.IsWhole)
  (a5 : Memref sig .tc .vmem S1x1024x1024 .f32) (h5 : a5.IsWhole) (a6 : Memref sig .tc .vmem S1x1024x1024 .f32) (h6 : a6.IsWhole)
  (a7 : Memref sig .tc .vmem S1x320x1024 .f32) (h7 : a7.IsWhole) (a8 : Memref sig .tc .vmem S320x1024 .bf16) (h8 : a8.IsWhole)
  (x : Vec F S2048x1024 .bf16) (q : Vec F S1x320x2048 .bf16) (w1 w2 : Vec F S1x1024x1024 .f32) (o : Vec F S1x320x1024 .f32) (s : Vec F S320x1024 .bf16)

/-- The body at an expert's first point. -/
theorem body_first (hi : first i) (K : PUnit → sProp 𝕄) :
    iprop((has c a3 x ∗ has c a4 q ∗ has c a5 w1 ∗ has c a6 w2 ∗ has c a7 o ∗ has c a8 s)
        ∗ (iprop(has c a3 x ∗ has c a4 q ∗ has c a5 w1 ∗ has c a6 w2 ∗ has c a7 (k0_pay3 w1 (k0_pay1 q x) w2 k0_pay2) ∗ has c a8 (k0_pay1 q x)) -∗ K ⟨⟩))
      ⊢ run c (cc0_body i a2 h2 a3 h3 a4 h4 a5 h5 a6 h6 a7 h7 a8 h8) K := by
  rw [cc0_body_eq_skeleton]
  unfold cc0_body_skel
  simp only [Prog.lift, Prog.bind_op, Prog.bind_ret, Prog.pure_eq_ret, Prog.bind_assoc, dif_pos hi]
  iintro ⟨⟨H3, H4, H5, H6, H7, H8⟩, Hk⟩
  iapply (step_load c a4 h4 q zeros3 inb_S1x320x2048_S1x320x2048_0_0_0) $$ H4; iintro H4
  iapply (step_load c a3 h3 x zeros2 inb_S2048x1024_S2048x1024_0_0) $$ H3; iintro H3
  iapply (step_load c a8 h8 s zeros2 inb_S320x1024_S320x1024_0_0) $$ H8; iintro H8
  iapply (step_store c a8 h8 s (k0_pay1 q x) zeros2 inb_S320x1024_S320x1024_0_0) $$ H8; iintro H8
  iapply (step_load c a5 h5 w1 zeros3 inb_S1x1024x1024_S1x1024x1024_0_0_0) $$ H5; iintro H5
  iapply (step_load c a8 h8 (k0_pay1 q x) zeros2 inb_S320x1024_S320x1024_0_0) $$ H8; iintro H8
  iapply (step_load c a6 h6 w2 zeros3 inb_S1x1024x1024_S1x1024x1024_0_0_0) $$ H6; iintro H6
  iapply (step_load c a7 h7 o zeros3 inb_S1x320x1024_S1x320x1024_0_0_0) $$ H7; iintro H7
  iapply (step_store c a7 h7 o k0_pay2 zeros3 inb_S1x320x1024_S1x320x1024_0_0_0) $$ H7; iintro H7
  iapply (step_load c a7 h7 k0_pay2 zeros3 inb_S1x320x1024_S1x320x1024_0_0_0) $$ H7; iintro H7
  iapply (step_load c a7 h7 k0_pay2 zeros3 inb_S1x320x1024_S1x320x1024_0_0_0) $$ H7; iintro H7
  iapply (step_store c a7 h7 k0_pay2 (k0_pay3 w1 (k0_pay1 q x) w2 k0_pay2) zeros3 inb_S1x320x1024_S1x320x1024_0_0_0) $$ H7; iintro H7
  unfold run; rw [wp_ret]; imodintro
  iapply Hk
  isplitl [H3]; · iexact H3
  isplitl [H4]; · iexact H4
  isplitl [H5]; · iexact H5
  isplitl [H6]; · iexact H6
  isplitl [H7]; · iexact H7
  iexact H8

/-- The body at an expert's second point. -/
theorem body_second (hi : ¬ first i) (K : PUnit → sProp 𝕄) :
    iprop((has c a3 x ∗ has c a4 q ∗ has c a5 w1 ∗ has c a6 w2 ∗ has c a7 o ∗ has c a8 s)
        ∗ (iprop(has c a3 x ∗ has c a4 q ∗ has c a5 w1 ∗ has c a6 w2 ∗ has c a7 (k0_pay3 w1 s w2 o) ∗ has c a8 s) -∗ K ⟨⟩))
      ⊢ run c (cc0_body i a2 h2 a3 h3 a4 h4 a5 h5 a6 h6 a7 h7 a8 h8) K := by
  rw [cc0_body_eq_skeleton]
  unfold cc0_body_skel
  simp only [Prog.lift, Prog.bind_op, Prog.bind_ret, Prog.pure_eq_ret, Prog.bind_assoc, dif_neg hi]
  iintro ⟨⟨H3, H4, H5, H6, H7, H8⟩, Hk⟩
  iapply (step_load c a5 h5 w1 zeros3 inb_S1x1024x1024_S1x1024x1024_0_0_0) $$ H5; iintro H5
  iapply (step_load c a8 h8 s zeros2 inb_S320x1024_S320x1024_0_0) $$ H8; iintro H8
  iapply (step_load c a6 h6 w2 zeros3 inb_S1x1024x1024_S1x1024x1024_0_0_0) $$ H6; iintro H6
  iapply (step_load c a7 h7 o zeros3 inb_S1x320x1024_S1x320x1024_0_0_0) $$ H7; iintro H7
  iapply (step_load c a7 h7 o zeros3 inb_S1x320x1024_S1x320x1024_0_0_0) $$ H7; iintro H7
  iapply (step_store c a7 h7 o (k0_pay3 w1 s w2 o) zeros3 inb_S1x320x1024_S1x320x1024_0_0_0) $$ H7; iintro H7
  unfold run; rw [wp_ret]; imodintro
  iapply Hk
  isplitl [H3]; · iexact H3
  isplitl [H4]; · iexact H4
  isplitl [H5]; · iexact H5
  isplitl [H6]; · iexact H6
  isplitl [H7]; · iexact H7
  iexact H8

end Body

end Cert.ExpertIdeal.Ffn

end
-- ==== Proof.ExpertIdealTable.lean ====
/-
The feed-forward call of v07: the table it prefetches.

The host puts the device's column of the mesh into a one-word table, and the index maps of the two weights read it: a device
works on its own half of the hidden columns.
-/
module

public import proofs.«01_k».proof.Proof.ExpertIdealBody

@[expose] public section

noncomputable section

namespace Cert.ExpertIdeal.Ffn

open Cert.ExpertIdeal Cert.ExpertIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-! ### The table -/

/-- The table's contents on a device: the number of its column of the mesh. -/
abbrev tb (c : Dev nD) : pre0.Contents (Elt F) := fun | 0 => (fun _ => BitVec.ofNat 32 (c.val / 2) : S1.Idx → BitVec 32) | ⟨_ + 1, h⟩ => absurd h (Nat.not_lt.2 (Nat.le_add_left _ _))

/-- The quarter of the hidden columns a device works on at a point. -/
abbrev quarter (c : Dev nD) (i : grid0.Coords) : Nat := (i 1).val + 2 * (c.val / 2)

/-- The index maps' word for it. -/
theorem quarter_word : ∀ (c : Dev nD) (j : Fin 2),
    (Scalar.addi (BitVec.ofNat 32 j.val) (Scalar.muli (BitVec.ofNat 32 (c.val / 2)) 2#32)).toNat = j.val + 2 * (c.val / 2) := by decide

theorem expert_word : ∀ e : Fin 8, (BitVec.ofNat 32 e.val).toNat = e.val := by decide

/-- The block of the first weights at a point. -/
theorem map_w1 (c : Dev nD) (i : grid0.Coords) :
    cc0_transform_2 Facts₀.inb_S1_S1_0 Facts₀.numel1_S1 (tb (F := F) c) i = ![(i 0).val, 0, quarter c i] := by
  show ![(BitVec.ofNat 32 (i 0).val).toNat, (0#32).toNat, (Scalar.addi (BitVec.ofNat 32 (i 1).val) (Scalar.muli (BitVec.ofNat 32 (c.val / 2)) 2#32)).toNat] = _
  rw [expert_word (i 0), quarter_word c (i 1)]
  rfl

/-- The block of the second weights at a point. -/
theorem map_w2 (c : Dev nD) (i : grid0.Coords) :
    cc0_transform_3 Facts₀.inb_S1_S1_0 Facts₀.numel1_S1 (tb (F := F) c) i = ![(i 0).val, quarter c i, 0] := by
  show ![(BitVec.ofNat 32 (i 0).val).toNat, (Scalar.addi (BitVec.ofNat 32 (i 1).val) (Scalar.muli (BitVec.ofNat 32 (c.val / 2)) 2#32)).toNat, (0#32).toNat] = _
  rw [expert_word (i 0), quarter_word c (i 1)]
  rfl

/-- The block of the gathering matrices and of the results at a point: the expert's. -/
theorem map_q (i : grid0.Coords) : cc0_transform_1 i = ![(i 0).val, 0, 0] := by
  show ![(BitVec.ofNat 32 (i 0).val).toNat, (0#32).toNat, (0#32).toNat] = _
  rw [expert_word (i 0)]; rfl

theorem map_o (i : grid0.Coords) : cc0_transform_4 i = ![(i 0).val, 0, 0] := map_q i

theorem fits_w1 : ∀ (c : Dev nD) (i : Fin 8) (j : Fin 2) (a : Fin 3),
    ((![i.val, 0, j.val + 2 * (c.val / 2)] : Fin 3 → Nat) a + 1) * S1x1024x1024.size a ≤ S8x1024x4096.size a := by decide

theorem fits_w2 : ∀ (c : Dev nD) (i : Fin 8) (j : Fin 2) (a : Fin 3),
    ((![i.val, j.val + 2 * (c.val / 2), 0] : Fin 3 → Nat) a + 1) * S1x1024x1024.size a ≤ S8x4096x1024.size a := by decide

/-- The pipeline's side condition holds of every device's table. -/
theorem ok_tb (c : Dev nD) : ok0 (F := F) (tb c) := by
  unfold ok0
  refine ⟨fun i => ⟨fun a => ?_, Or.inl rfl⟩, fun i => ⟨fun a => ?_, Or.inl rfl⟩⟩
  · rw [map_w1]; exact fits_w1 c (i 0) (i 1) a
  · rw [map_w2]; exact fits_w2 c (i 0) (i 1) a

/-- The admissible contents the pipeline runs at on a device. -/
abbrev adm (c : Dev nD) (_ : Fin 1) : (pcfg0 (F := F)).Adm := ⟨tb c, ok_tb c⟩

/-- The configuration on a device. -/
abbrev cfgA (c : Dev nD) : Pipeline.Cfg sig Λ₀ := cfg0 (F := F) (adm c 0)

/-! ### The host operations before the call -/

variable (m : (ℓ : Loc nD τ sig) → Buf (Elt F) ℓ)

theorem column_word : ∀ c : Dev nD, Scalar.remui (Scalar.divui (Dev.word c) 2#32) 2#32 = BitVec.ofNat 32 (c.val / 2) := by decide

/-- They leave the device's column in the table. -/
theorem table_at (c : Dev nD) (k : Fin 1) : V1 m c (pre0.ref k) = (tb (F := F) c) k := by
  obtain rfl : k = 0 := Subsingleton.elim _ _
  show V1 m c main_v5 = fun _ => BitVec.ofNat 32 (c.val / 2)
  unfold V1 hostOps0
  rw [StableHlo.after_cons, StableHlo.after_cons, StableHlo.after_cons, StableHlo.after_cons, StableHlo.after_cons, StableHlo.after_cons, StableHlo.after_cons,
    StableHlo.after_nil, StableHlo.unary_result, StableHlo.unary_result, StableHlo.binary_result, StableHlo.binary_result,
    StableHlo.binary_result_ne _ _ _ _ _ _ _ _ (by decide), StableHlo.nullary_result,
    StableHlo.nullary_result_ne _ _ _ _ (by decide), StableHlo.nullary_result_ne _ _ _ _ (by decide), StableHlo.nullary_result,
    StableHlo.nullary_result_ne _ _ _ _ (by decide), StableHlo.nullary_result]
  exact funext fun _ => column_word c

end Cert.ExpertIdeal.Ffn

end
-- ==== Proof.ExpertIdealData.lean ====
/-
The feed-forward call of v07: what its buffers hold at each grid point.

Two points go to each expert. At the even one the scratch buffer takes the gathered rows and the result's staging buffer the
first half of the hidden columns' share; at the odd one the second half is added. This file states those contents and proves
that the body keeps them.
-/
module

public import proofs.«01_k».proof.Proof.ExpertIdealTable

@[expose] public section

noncomputable section

namespace Cert.ExpertIdeal.Ffn

open Cert.ExpertIdeal Cert.ExpertIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ)

/-! ### The contents -/

/-- The blocks a device's windows show at a point. -/
def xblk (c : Dev nD) (t : Fin grid0.N) : Vec F S2048x1024 .bf16 := (((cfgA (F := F) c).win 0).blk t).view.read (Elt F) (V1 m c main_arg0)
def qblk (c : Dev nD) (t : Fin grid0.N) : Vec F S1x320x2048 .bf16 := (((cfgA (F := F) c).win 1).blk t).view.read (Elt F) (V1 m c main_arg1)
def w1blk (c : Dev nD) (t : Fin grid0.N) : Vec F S1x1024x1024 .f32 := (((cfgA (F := F) c).win 2).blk t).view.read (Elt F) (V1 m c main_arg2)
def w2blk (c : Dev nD) (t : Fin grid0.N) : Vec F S1x1024x1024 .f32 := (((cfgA (F := F) c).win 3).blk t).view.read (Elt F) (V1 m c main_arg3)

/-- The gathered rows of the point's expert. -/
def rows (c : Dev nD) (t : Fin grid0.N) : Vec F S320x1024 .bf16 := k0_pay1 (qblk m c t) (xblk m c t)

/-- The point of a number. -/
def pt (n : Nat) : Fin grid0.N := ⟨n % 16, by rw [N_0]; omega⟩

theorem pt_val (t : Fin grid0.N) (h : t.val - 1 < grid0.N) : pt (t.val - 1) = ⟨t.val - 1, h⟩ := by
  apply Fin.ext; have := N_0; show (t.val - 1) % 16 = t.val - 1; omega

/-- What an expert's first point leaves in the result's staging buffer, -/
def part1 (c : Dev nD) (t : Fin grid0.N) : Vec F S1x320x1024 .f32 := k0_pay3 (w1blk m c t) (rows m c t) (w2blk m c t) k0_pay2

/-- and its second. -/
def part2 (c : Dev nD) (t : Fin grid0.N) : Vec F S1x320x1024 .f32 :=
  k0_pay3 (w1blk m c t) (rows m c (pt (t.val - 1))) (w2blk m c t) (part1 m c (pt (t.val - 1)))

def oblk (c : Dev nD) (t : Fin grid0.N) : Vec F S1x320x1024 .f32 := if t.val % 2 = 0 then part1 m c t else part2 m c t

/-- The scratch buffer between the points: at an expert's second point it holds the rows gathered at the first. -/
def between (c : Dev nD) (n : Nat) : sProp 𝕄 :=
  iprop(∃ s : Vec F S320x1024 .bf16, ⌜n % 2 = 1 → s = rows m c (pt (n - 1))⌝ ∗ has c (Memref.whole cc0_scratch0) s)

/-- The proof data of the pipeline on a device. -/
def dats (_ : Fin 1) (c : Dev nD) : Dat τ (Elt F) Unit ℕ UU ℕ (cfgA (F := F) c) c where
  A w := V1 m c (Pipeline.arrRef spec0 w)
  after w t := match w with
    | ⟨0, _⟩ => xblk m c t
    | ⟨1, _⟩ => qblk m c t
    | ⟨2, _⟩ => w1blk m c t
    | ⟨3, _⟩ => w2blk m c t
    | ⟨4, _⟩ => oblk m c t
  Φ t := between m c t.val
  q _ := fullShare
  owed _ := 0

/-! ### The body at a point -/

theorem first_iff (t : Fin grid0.N) : first (grid0.coords t) ↔ t.val % 2 = 0 := by
  rcases fin_N0 t with rfl | rfl | rfl | rfl | rfl | rfl | rfl | rfl | rfl | rfl | rfl | rfl | rfl | rfl | rfl | rfl <;> decide

theorem out_moves : ∀ t : Fin grid0.N, (true && (decide (t.val + 1 = grid0.N)
    || decide (∃ h : t.val + 1 < grid0.N, cc0_transform_4 (grid0.coords ⟨t.val + 1, h⟩) ≠ cc0_transform_4 (grid0.coords t)))) = decide (t.val % 2 = 1) := by
  decide

/-- The results go out at an expert's second point. -/
theorem flush_o (c : Dev nD) (t : Fin grid0.N) : ((cfgA (F := F) c).win 4).flush t = decide (t.val % 2 = 1) := out_moves t

theorem before_x (c : Dev nD) (t : Fin grid0.N) (d) : (dats m 0 c).before (0 : Fin 5) t d = xblk m c t :=
  (dats m 0 c).before_in_eq_fetched (0 : Fin 5) rfl (fun _ => rfl) (fun _ _ _ => rfl) (fun _ => rfl) t d
theorem before_q (c : Dev nD) (t : Fin grid0.N) (d) : (dats m 0 c).before (1 : Fin 5) t d = qblk m c t :=
  (dats m 0 c).before_in_eq_fetched (1 : Fin 5) rfl (fun _ => rfl) (fun _ _ _ => rfl) (fun _ => rfl) t d
theorem before_w1 (c : Dev nD) (t : Fin grid0.N) (d) : (dats m 0 c).before (2 : Fin 5) t d = w1blk m c t :=
  (dats m 0 c).before_in_eq_fetched (2 : Fin 5) rfl (fun _ => rfl) (fun _ _ _ => rfl) (fun _ => rfl) t d
theorem before_w2 (c : Dev nD) (t : Fin grid0.N) (d) : (dats m 0 c).before (3 : Fin 5) t d = w2blk m c t :=
  (dats m 0 c).before_in_eq_fetched (3 : Fin 5) rfl (fun _ => rfl) (fun _ _ _ => rfl) (fun _ => rfl) t d

/-- At an expert's second point the result's staging buffer holds what the first left. -/
theorem before_o (c : Dev nD) (t : Fin grid0.N) (ht : t.val % 2 = 1) (d) : (dats m 0 c).before (4 : Fin 5) t d = part1 m c (pt (t.val - 1)) := by
  have h0 : t.val ≠ 0 := by omega
  rw [(dats m 0 c).before_out_kept (4 : Fin 5) rfl t h0 (by rw [flush_o]; exact decide_eq_false (show ¬ (t.val - 1) % 2 = 1 by omega)) (fun _ => rfl) (fun _ _ => rfl) d]
  show oblk m c _ = _
  rw [← pt_val t (by omega)]
  have := N_0
  exact if_pos (show (t.val - 1) % 16 % 2 = 0 by omega)

end Cert.ExpertIdeal.Ffn

end
-- ==== Proof.ExpertIdealFrame.lean ====
/-
The feed-forward call of v07: the run of the whole program on every device.

The body keeps the stated contents at every point, the host operations put the device's column into the table, and the
library's launch theorem gives the run: it terminates, the arguments are unchanged, every semaphore is at zero, and the result
array is what the write-backs make of it.
-/
module

public import proofs.«01_k».proof.Proof.ExpertIdealData

@[expose] public section

noncomputable section

namespace Cert.ExpertIdeal.Ffn

open Cert.ExpertIdeal Cert.ExpertIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The body keeps the contents -/

theorem even_succ (c : Dev nD) (t : Fin grid0.N) (ht : t.val % 2 = 0) : rows m c t = rows m c (pt (t.val + 1 - 1)) := by
  congr 1; apply Fin.ext; have := N_0; have := t.isLt; show t.val = (t.val + 1 - 1) % 16; omega

theorem body_obligation (c : Dev nD) : BodyObligationLoose (dats m 0 c) (defs₀ (F := F)) 𝒱₀ () Set.univ := fun t => by
  rw [bigSep_W0, bigSep_W0]
  simp only
  rw [show (dats m 0 c).owesAt () t.succ = (dats m 0 c).owesAt () t.castSucc from rfl,
    show (dats m 0 c).Φ t.castSucc = between m c t.val from rfl, show (dats m 0 c).Φ t.succ = between m c (t.val + 1) from rfl]
  unfold between
  iintro ⟨⟨%s, %hs, Hs⟩, Ho, ⟨%d0, H0⟩, ⟨%d1, H1⟩, ⟨%d2, H2⟩, ⟨%d3, H3⟩, ⟨%d4, H4⟩⟩
  rw [before_x m c t d0, before_q m c t d1, before_w1 m c t d2, before_w2 m c t d3]
  by_cases ht : t.val % 2 = 0
  · iapply (body_first (F := F) c (grid0.coords t) (Memref.whole main_v5) (Memref.isWhole_whole _) (stage0_0 ((cfgA (F := F) c).slots t 0)) (Facts₀.hstage0_0 _)
      (stage0_1 ((cfgA (F := F) c).slots t 1)) (Facts₀.hstage0_1 _) (stage0_2 ((cfgA (F := F) c).slots t 2)) (Facts₀.hstage0_2 _)
      (stage0_3 ((cfgA (F := F) c).slots t 3)) (Facts₀.hstage0_3 _) (stage0_4 ((cfgA (F := F) c).slots t 4)) (Facts₀.hstage0_4 _)
      (Memref.whole cc0_scratch0) (Memref.isWhole_whole _) (xblk m c t) (qblk m c t) (w1blk m c t) (w2blk m c t)
      ((dats m 0 c).before (4 : Fin 5) t d4) s ((first_iff t).2 ht) _)
    isplitl [Hs H0 H1 H2 H3 H4]
    · isplitl [H0]; · iexact H0
      isplitl [H1]; · iexact H1
      isplitl [H2]; · iexact H2
      isplitl [H3]; · iexact H3
      isplitl [H4]; · iexact H4
      iexact Hs
    iintro ⟨H0, H1, H2, H3, H4, Hs⟩
    isplitl [Hs]
    · iexists (rows m c t)
      isplitr
      · ipureintro; exact fun _ => even_succ m c t ht
      · iexact Hs
    isplitl [Ho]; · iexact Ho
    isplitl [H0]; · iexact H0
    isplitl [H1]; · iexact H1
    isplitl [H2]; · iexact H2
    isplitl [H3]; · iexact H3
    iapply (Entails.of_eq (show has c (stage0_4 ((cfgA (F := F) c).slots t 4)) (part1 m c t) = has c (stage0_4 ((cfgA (F := F) c).slots t 4)) (oblk m c t) by
      unfold oblk; rw [if_pos ht]))
    iexact H4
  · have ht1 : t.val % 2 = 1 := by omega
    rw [before_o m c t ht1 d4, hs ht1]
    iapply (body_second (F := F) c (grid0.coords t) (Memref.whole main_v5) (Memref.isWhole_whole _) (stage0_0 ((cfgA (F := F) c).slots t 0)) (Facts₀.hstage0_0 _)
      (stage0_1 ((cfgA (F := F) c).slots t 1)) (Facts₀.hstage0_1 _) (stage0_2 ((cfgA (F := F) c).slots t 2)) (Facts₀.hstage0_2 _)
      (stage0_3 ((cfgA (F := F) c).slots t 3)) (Facts₀.hstage0_3 _) (stage0_4 ((cfgA (F := F) c).slots t 4)) (Facts₀.hstage0_4 _)
      (Memref.whole cc0_scratch0) (Memref.isWhole_whole _) (xblk m c t) (qblk m c t) (w1blk m c t) (w2blk m c t)
      (part1 m c (pt (t.val - 1))) (rows m c (pt (t.val - 1))) (fun h => ht ((first_iff t).1 h)) _)
    isplitl [Hs H0 H1 H2 H3 H4]
    · isplitl [H0]; · iexact H0
      isplitl [H1]; · iexact H1
      isplitl [H2]; · iexact H2
      isplitl [H3]; · iexact H3
      isplitl [H4]; · iexact H4
      iexact Hs
    iintro ⟨H0, H1, H2, H3, H4, Hs⟩
    isplitl [Hs]
    · iexists (rows m c (pt (t.val - 1)))
      isplitr
      · ipureintro; exact fun h => absurd h (by omega)
      · iexact Hs
    isplitl [Ho]; · iexact Ho
    isplitl [H0]; · iexact H0
    isplitl [H1]; · iexact H1
    isplitl [H2]; · iexact H2
    isplitl [H3]; · iexact H3
    iapply (Entails.of_eq (show has c (stage0_4 ((cfgA (F := F) c).slots t 4)) (part2 m c t) = has c (stage0_4 ((cfgA (F := F) c).slots t 4)) (oblk m c t) by
      unfold oblk; rw [if_neg ht]))
    iexact H4

/-! ### The scratch buffer at the two ends -/

omit [FloatOps F] in
theorem scratch_has (c : Dev nD) (X : Vec F S320x1024 .bf16) :
    (has c (Memref.whole cc0_scratch0) X : sProp 𝕄)
      = iprop(∃ f : Buf (Elt F) ((c : Thread nD τ).loc cc0_scratch0), ⌜f = X⌝ ∗ (((c : Thread nD τ).loc cc0_scratch0) ↦{fullShare} f)) := by
  unfold has owns; simp only [Memref.view_whole, View.read_whole, View.set_whole]

theorem between_enter (c : Dev nD) :
    (Pipeline.scopedRest (Ix := Unit) (Name := ℕ) (U := UU) (Lvl := ℕ) (Val := Elt F) spec0 c : sProp 𝕄) ⊢ between m c 0 := by
  rw [scopedRest0_eq]; unfold between; simp only [scratch_has]
  iintro ⟨%f, H⟩
  iexists f
  isplitr
  · ipureintro; exact fun h => absurd h (by decide)
  iexists f
  isplitr
  · ipureintro; rfl
  · iexact H

theorem between_leave (c : Dev nD) (n : Nat) :
    between m c n ⊢ (Pipeline.scopedRest (Ix := Unit) (Name := ℕ) (U := UU) (Lvl := ℕ) (Val := Elt F) spec0 c : sProp 𝕄) := by
  rw [scopedRest0_eq]; unfold between; simp only [scratch_has]
  iintro ⟨%s, -, %f, -, H⟩
  iexists f
  iexact H

/-! ### The run -/

theorem cells_inj : Function.Injective (Pipeline.PerCore.cellOf (nD := nD) (τ := τ) (Pipeline.pinD (pcfgs (F := F)) adm)) :=
  Pipeline.PerCore.cellOf_injective _ (fun _ p => by fin_cases p; exact (by decide : Pipeline.SpecSemsDistinct spec0))
    (fun _ p p' h => absurd (Subsingleton.elim p p') h)

/-- The launch element. -/
def u₀ (F : FTy → Type) [FloatOps F] : UU := initOf (Pipeline.PerCore.cells (Pipeline.pinD (pcfgs (F := F)) adm) cells_inj) (Pipeline.PerCore.launchToks (Pipeline.pinD (pcfgs (F := F)) adm) cells_inj)

/-- An array's contents after the run. -/
def final (c : Dev nD) (w : Fin 5) : Buf (Elt F) ((spec0 w).arr.view.loc (c : Thread nD τ)) := (dats m 0 c).arrAt w grid0.N

set_option backward.isDefEq.respectTransparency.types false in
/-- The host operations up to the call. -/
theorem main_run (c : Dev nD) (Q : PUnit → sProp 𝕄) :
    iprop((iprop(boundary (c : Thread nD τ) ∗ unscopedBufs c (fun b => V1 m c b))
            -∗ wp frame (wpE (defs (F := F)) (Variants.lift 𝒱₀) (c : Thread nD τ) none) Set.univ
                (.op (.customCall (Pipeline.entry (0 : Fin 1)) ()) fun _ => .ret ⟨⟩) Q)
        ∗ boundary (c : Thread nD τ) ∗ unscopedBufs c (fun b => m ((c : Thread nD τ).loc b)))
      ⊢ wp frame (wpE (defs (F := F)) (Variants.lift 𝒱₀) (c : Thread nD τ) none) Set.univ (main c) Q := by
  rw [main_chain, show unscopedBufs c (fun b => V1 m c b) = StableHlo.held (c : Thread nD τ) (Pipeline.ucRefs τ sig) (StableHlo.after (hostOps0 c) (V0 m c))
      from Pipeline.unscopedBufs_held c _,
    show unscopedBufs c (fun b => m ((c : Thread nD τ).loc b)) = StableHlo.held (c : Thread nD τ) (Pipeline.ucRefs τ sig) (V0 m c)
      from Pipeline.unscopedBufs_held c (V0 m c)]
  simp only [Pipeline.chain]
  iintro ⟨Hk, Hb⟩
  iapply (StableHlo.wp_seq (Variants.lift 𝒱₀) none Set.univ c (Pipeline.ucRefs τ sig) _ (hostOps0 c)
    (fun op h => Pipeline.sub_ucRefs op ((List.forall_iff_forall_mem.mp (hostOps0_sub c)) op h))
    (fun op h => (List.forall_iff_forall_mem.mp (hostOps0_fresh c)) op h) (V0 m c)) $$ Hb
  iintro Hb
  iapply Hk; iexact Hb

set_option backward.isDefEq.respectTransparency.types false in
/-- The run of the program on every device. -/
theorem run_main : θ_run (defs (F := F)) (onTc (τ := τ) (main (F := F))) ⟨m, fun _ => 0, ρ⟩
    (fun r => (∀ (c : Dev nD) (w : Fin 5), r.2.mem ((spec0 w).arr.view.loc (c : Thread nD τ)) = final m c w) ∧ r.2.sem = fun _ => 0) :=
  Pipeline.PerCore.θ_run_region_noSem_pf_quiescent (pcfgs (F := F)) adm (dats m) () cells_inj (0 : Fin 1) (launch0 (F := F)).win.to₀ (launch0 (F := F)).pre
    EP defs₀ 𝒱₀ m ρ main
    (hbody := body_obligation m) (hne := (launch0 (F := F)).block_pos) (harr := (launch0 (F := F)).arr_whole) (hstage := (launch0 (F := F)).stage_whole)
    (howed := fun _ _ => rfl)
    (u₀ := u₀ F) (hu₀ := BI.Entails.refl _)
    (V := fun c b => V1 m c b)
    (hmain := main_run m)
    (hsplit := fun c => Pipeline.PerCore.arrays_split (Pipeline.pinD (pcfgs (F := F)) adm) (dats m) 0 c (launch0 (F := F)).win.arr_inj (launch0 (F := F)).arr_whole
      ((dats m 0 c).share_full fun _ => rfl) (fun b => V1 m c b) _ fun _ => rfl)
    (hpf := table_at m)
    (X := fun _ => iprop(emp)) (Y := fun _ => iprop(emp)) (Z := fun _ => iprop(emp))
    (hX := fun c => by iintro -; isplitr <;> iempintro)
    (hin := fun c => by
      rw [show (dats m 0 c).Φ 0 = between m c 0 from rfl]
      iintro ⟨-, -, H⟩; iapply (between_enter m c); iexact H)
    (hout := fun c => by
      rw [show (dats m 0 c).Φ (Fin.last grid0.N) = between m c grid0.N from rfl]
      iintro H
      isplitr; · iempintro
      iapply (between_leave m c _); iexact H)
    (QY := fun _ _ => True)
    (hY := fun c s' => by
      iintro ⟨-, -, HSI⟩; imodintro
      isplitr; · ipureintro; trivial
      iexact HSI)
    (hQ := fun _ h hz => ⟨fun c w => (h c).1 w, hz⟩)

/-- The arguments are unchanged. -/
theorem final_in0 (c : Dev nD) : final m c 0 = m ((c : Thread nD τ).loc main_arg0) := by
  unfold final; rw [(dats m 0 c).arrAt_in (0 : Fin 5) rfl]; exact V1_of m c main_arg0 (by decide)
theorem final_in1 (c : Dev nD) : final m c 1 = m ((c : Thread nD τ).loc main_arg1) := by
  unfold final; rw [(dats m 0 c).arrAt_in (1 : Fin 5) rfl]; exact V1_of m c main_arg1 (by decide)
theorem final_in2 (c : Dev nD) : final m c 2 = m ((c : Thread nD τ).loc main_arg2) := by
  unfold final; rw [(dats m 0 c).arrAt_in (2 : Fin 5) rfl]; exact V1_of m c main_arg2 (by decide)
theorem final_in3 (c : Dev nD) : final m c 3 = m ((c : Thread nD τ).loc main_arg3) := by
  unfold final; rw [(dats m 0 c).arrAt_in (3 : Fin 5) rfl]; exact V1_of m c main_arg3 (by decide)

/-- The run, read at the program's arguments and result. -/
theorem run_args : θ_run (defs (F := F)) (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_v6) = final m c 4) ∧ r.2.sem = fun _ => 0) :=
  (θ_run defs _ _).mono (fun r h => ⟨fun c => ⟨(h.1 c 0).trans (final_in0 m c), (h.1 c 1).trans (final_in1 m c), (h.1 c 2).trans (final_in2 m c),
    (h.1 c 3).trans (final_in3 m c), h.1 c 4⟩, h.2⟩) (run_main m ρ)

/-- The arguments unchanged and every semaphore at zero at the end. -/
theorem run_frame : θ_run (defs (F := F)) (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0) :=
  (θ_run defs _ _).mono (fun r h => ⟨fun c => ⟨(h.1 c).1, (h.1 c).2.1, (h.1 c).2.2.1, (h.1 c).2.2.2.1⟩, h.2⟩) (run_args m ρ)

end Cert.ExpertIdeal.Ffn

end
-- ==== Proof.ExpertIdealValue.lean ====
/-
What the experts' call computes, in exact arithmetic: on every device, for each of its experts, the share of the expert's result that
the device's half of the hidden columns gives.

A point of the grid takes one expert and half of the device's hidden columns. The expert's first point gathers its rows of x and adds to
zeros, the second adds to what the first left; the result goes out after the second.
-/
module

public import proofs.«01_k».proof.Proof.ExpertIdealFrame
public import proofs.«01_k».proof.Proof.Gen.ExpertRefIdeal.Run
public import Idealize.ShloMosaic.Lib.Pointwise
public import Idealize.ShloMosaic.Lib.Pipeline.Value
public import Idealize.ShloMosaic.Lib.Layout
public import proofs.«01_k».proof.Defs

@[expose] public section

noncomputable section

namespace Cert.ExpertIdeal.Ffn

open Cert.ExpertIdeal Cert.ExpertIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-! ### The blocks of the arguments -/

theorem coords_val : ∀ t : Fin grid0.N, (grid0.coords t 0).val = t.val / 2 ∧ (grid0.coords t 1).val = t.val % 2 := by
  intro t
  rcases fin_N0 t with rfl | rfl | rfl | rfl | rfl | rfl | rfl | rfl | rfl | rfl | rfl | rfl | rfl | rfl | rfl | rfl <;> exact ⟨rfl, rfl⟩

theorem pt_lt (t : Fin grid0.N) : t.val < 16 := by have := t.isLt; have := N_0; omega

/-- The expert of a point. -/
def ex (t : Fin grid0.N) : Fin 8 := ⟨t.val / 2, by have := pt_lt t; omega⟩

/-- The hidden column (of the 4096) of a column of a device's block at a point. -/
def col (c : Dev nD) (t : Fin grid0.N) (f : Fin 1024) : Fin 4096 := ⟨(t.val % 2 + 2 * (c.val / 2)) * 1024 + f.val, by have hc : c.val < 4 := c.isLt; omega⟩

section exact

variable (m : (ℓ : Loc nD τ sig) → Buf (Elt Ideal) ℓ) (ρ : Dev nD → PrngReg)

/-- A device's argument arrays. -/
abbrev xA (c : Dev nD) : S2048x1024.Idx → EReal := m ((c : Thread nD τ).loc main_arg0)
abbrev qA (c : Dev nD) : S8x320x2048.Idx → EReal := m ((c : Thread nD τ).loc main_arg1)
abbrev w1A (c : Dev nD) : S8x1024x4096.Idx → EReal := m ((c : Thread nD τ).loc main_arg2)
abbrev w2A (c : Dev nD) : S8x4096x1024.Idx → EReal := m ((c : Thread nD τ).loc main_arg3)

theorem xblk_apply (c : Dev nD) (t : Fin grid0.N) (r : Fin 2048) (k : Fin 1024) : (xblk m c t (ix2 r k) : EReal) = xA m c (ix2 r k) := by
  unfold xblk
  rw [V1_of m c main_arg0 (by decide)]
  show xA m c _ = _
  congr 1
  funext a
  apply Fin.ext
  match a with
  | ⟨0, _⟩ => show 0 + 1 * r.val = r.val; omega
  | ⟨1, _⟩ => show 0 + 1 * k.val = k.val; omega

theorem qblk_apply (c : Dev nD) (t : Fin grid0.N) (r : Fin 320) (k : Fin 2048) : (qblk m c t (ix3 0 r k) : EReal) = qA m c (ix3 (ex t) r k) := by
  unfold qblk
  rw [V1_of m c main_arg1 (by decide)]
  show qA m c _ = _
  congr 1
  funext a
  apply Fin.ext
  have h := map_q (grid0.coords t)
  have h0 := (coords_val t).1
  match a with
  | ⟨0, _⟩ =>
    show cc0_transform_1 (grid0.coords t) 0 * 1 + 1 * 0 = t.val / 2
    rw [h, ← h0]; show (grid0.coords t 0).val * 1 + 1 * 0 = _; omega
  | ⟨1, _⟩ => show 0 * 320 + 1 * r.val = r.val; omega
  | ⟨2, _⟩ => show 0 * 2048 + 1 * k.val = k.val; omega

theorem w1blk_apply (c : Dev nD) (t : Fin grid0.N) (k f : Fin 1024) : (w1blk m c t (ix3 0 k f) : EReal) = w1A m c (ix3 (ex t) k (col c t f)) := by
  unfold w1blk
  rw [V1_of m c main_arg2 (by decide)]
  show w1A m c _ = _
  congr 1
  funext a
  apply Fin.ext
  have h := map_w1 (F := Ideal) c (grid0.coords t)
  have h0 := (coords_val t).1
  have h1 := (coords_val t).2
  match a with
  | ⟨0, _⟩ =>
    show cc0_transform_2 Facts₀.inb_S1_S1_0 Facts₀.numel1_S1 (tb (F := Ideal) c) (grid0.coords t) 0 * 1 + 1 * 0 = t.val / 2
    rw [h, ← h0]; show (grid0.coords t 0).val * 1 + 1 * 0 = _; omega
  | ⟨1, _⟩ => show 0 * 1024 + 1 * k.val = k.val; omega
  | ⟨2, _⟩ =>
    show cc0_transform_2 Facts₀.inb_S1_S1_0 Facts₀.numel1_S1 (tb (F := Ideal) c) (grid0.coords t) 2 * 1024 + 1 * f.val = (t.val % 2 + 2 * (c.val / 2)) * 1024 + f.val
    rw [h, ← h1]; show ((grid0.coords t 1).val + 2 * (c.val / 2)) * 1024 + 1 * f.val = _; omega

theorem w2blk_apply (c : Dev nD) (t : Fin grid0.N) (f d : Fin 1024) : (w2blk m c t (ix3 0 f d) : EReal) = w2A m c (ix3 (ex t) (col c t f) d) := by
  unfold w2blk
  rw [V1_of m c main_arg3 (by decide)]
  show w2A m c _ = _
  congr 1
  funext a
  apply Fin.ext
  have h := map_w2 (F := Ideal) c (grid0.coords t)
  have h0 := (coords_val t).1
  have h1 := (coords_val t).2
  match a with
  | ⟨0, _⟩ =>
    show cc0_transform_3 Facts₀.inb_S1_S1_0 Facts₀.numel1_S1 (tb (F := Ideal) c) (grid0.coords t) 0 * 1 + 1 * 0 = t.val / 2
    rw [h, ← h0]; show (grid0.coords t 0).val * 1 + 1 * 0 = _; omega
  | ⟨1, _⟩ =>
    show cc0_transform_3 Facts₀.inb_S1_S1_0 Facts₀.numel1_S1 (tb (F := Ideal) c) (grid0.coords t) 1 * 1024 + 1 * f.val = (t.val % 2 + 2 * (c.val / 2)) * 1024 + f.val
    rw [h, ← h1]; show ((grid0.coords t 1).val + 2 * (c.val / 2)) * 1024 + 1 * f.val = _; omega
  | ⟨2, _⟩ => show 0 * 1024 + 1 * d.val = d.val; omega

/-! ### What the body computes -/

theorem pay1_apply (q : Vec Ideal S1x320x2048 .bf16) (x : Vec Ideal S2048x1024 .bf16) (r : Fin 320) (k : Fin 1024) :
    (k0_pay1 q x (ix2 r k) : EReal) = ∑ t : Fin 2048, (q (ix3 0 r t) : EReal) * (x (ix2 t k) : EReal) := by
  pointwise [k0_pay1]

theorem pay2_apply (r : Fin 320) (d : Fin 1024) : (k0_pay2 (F := Ideal) (ix3 0 r d) : EReal) = 0 := by
  pointwise [k0_pay2]

theorem pay3_apply (w1 : Vec Ideal S1x1024x1024 .f32) (g : Vec Ideal S320x1024 .bf16) (w2 : Vec Ideal S1x1024x1024 .f32) (o : Vec Ideal S1x320x1024 .f32)
    (r : Fin 320) (d : Fin 1024) :
    (k0_pay3 w1 g w2 o (ix3 0 r d) : EReal)
      = (o (ix3 0 r d) : EReal) + ∑ f : Fin 1024, max (∑ k : Fin 1024, (g (ix2 r k) : EReal) * (w1 (ix3 0 k f) : EReal)) 0 * (w2 (ix3 0 f d) : EReal) := by
  pointwise [k0_pay3]

/-- A row of x gathered for a device's expert, -/
def picked (c : Dev nD) (e : Fin 8) (r : Fin 320) (k : Fin 1024) : EReal := ∑ t : Fin 2048, qA m c (ix3 e r t) * xA m c (ix2 t k)

/-- one hidden column's share of the expert's result, -/
def share (c : Dev nD) (e : Fin 8) (r : Fin 320) (d : Fin 1024) (h : Fin 4096) : EReal :=
  max (∑ k : Fin 1024, picked m c e r k * w1A m c (ix3 e k h)) 0 * w2A m c (ix3 e h d)

theorem rows_apply (c : Dev nD) (t : Fin grid0.N) (r : Fin 320) (k : Fin 1024) : (rows m c t (ix2 r k) : EReal) = picked m c (ex t) r k := by
  unfold rows picked
  rw [pay1_apply]
  exact Finset.sum_congr rfl fun j _ => congrArg₂ (· * ·) (qblk_apply m c t r j) (xblk_apply m c t j k)

/-- and what a point adds. -/
theorem step_apply (c : Dev nD) (t t' : Fin grid0.N) (ht : ex t' = ex t) (o : Vec Ideal S1x320x1024 .f32) (r : Fin 320) (d : Fin 1024) :
    (k0_pay3 (w1blk m c t) (rows m c t') (w2blk m c t) o (ix3 0 r d) : EReal) = (o (ix3 0 r d) : EReal) + ∑ f : Fin 1024, share m c (ex t) r d (col c t f) := by
  rw [pay3_apply]
  refine congrArg _ (Finset.sum_congr rfl fun f _ => congrArg₂ (fun a b : EReal => max a 0 * b) ?_ (w2blk_apply m c t f d))
  refine Finset.sum_congr rfl fun k _ => congrArg₂ (· * ·) ?_ (w1blk_apply m c t k f)
  rw [rows_apply, ht]

theorem part1_apply (c : Dev nD) (t : Fin grid0.N) (r : Fin 320) (d : Fin 1024) :
    (part1 m c t (ix3 0 r d) : EReal) = ∑ f : Fin 1024, share m c (ex t) r d (col c t f) := by
  unfold part1
  rw [step_apply m c t t rfl, pay2_apply, zero_add]

theorem ex_pred (t : Fin grid0.N) (h : t.val % 2 = 1) : ex (pt (t.val - 1)) = ex t := by
  apply Fin.ext; have := pt_lt t; show (t.val - 1) % 16 / 2 = t.val / 2; omega

/-- The hidden column of a column of the device's half. -/
def hidden (x : Fin 2) (f : Fin 2048) : Fin 4096 := ⟨x.val * 2048 + f.val, by have := x.isLt; omega⟩

/-- The device's place along the first axis of the mesh. -/
def xi (c : Dev nD) : Fin 2 := ⟨c.val / 2, by have hc : c.val < 4 := c.isLt; omega⟩

/-- The two points of an expert leave the sum over the device's half of the hidden columns. -/
theorem part2_apply (c : Dev nD) (t : Fin grid0.N) (h : t.val % 2 = 1) (r : Fin 320) (d : Fin 1024) :
    (part2 m c t (ix3 0 r d) : EReal) = ∑ f : Fin 2048, share m c (ex t) r d (hidden (xi c) f) := by
  unfold part2
  rw [step_apply m c t _ (ex_pred t h), part1_apply, ex_pred t h, Fin.sum_univ_tiles (N := 2048) 2 1024 rfl, Fin.sum_univ_two]
  refine congrArg₂ (· + ·) (Finset.sum_congr rfl fun f _ => congrArg _ (Fin.ext ?_)) (Finset.sum_congr rfl fun f _ => congrArg _ (Fin.ext ?_))
  · have := pt_lt t
    show ((t.val - 1) % 16 % 2 + 2 * (c.val / 2)) * 1024 + f.val = c.val / 2 * 2048 + (0 * 1024 + f.val)
    omega
  · show (t.val % 2 + 2 * (c.val / 2)) * 1024 + f.val = c.val / 2 * 2048 + (1 * 1024 + f.val)
    omega

/-! ### The result array -/

/-- A device's result. -/
def res (c : Dev nD) : S8x320x1024.Idx → EReal := fun i => ∑ f : Fin 2048, share m c (i 0) (i 1) (i 2) (hidden (xi c) f)

theorem out_block (c : Dev nD) (t : Fin grid0.N) (y : S1x320x1024.Idx) :
    ((((cfgA (F := Ideal) c).win 4).blk t).view.emb y : S8x320x1024.Idx) = ix3 (ex t) (y 1) (y 2) := by
  funext a
  apply Fin.ext
  have h := map_o (grid0.coords t)
  have h0 := (coords_val t).1
  match a with
  | ⟨0, _⟩ =>
    show cc0_transform_4 (grid0.coords t) 0 * 1 + 1 * (y 0).val = t.val / 2
    have hy : (y 0).val < 1 := (y 0).isLt
    rw [h, ← h0]; show (grid0.coords t 0).val * 1 + 1 * (y 0).val = _; omega
  | ⟨1, _⟩ => show 0 * 320 + 1 * (y 1).val = (y 1).val; omega
  | ⟨2, _⟩ => show 0 * 1024 + 1 * (y 2).val = (y 2).val; omega

theorem out_block_read (c : Dev nD) (t : Fin grid0.N) (G : S8x320x1024.Idx → EReal) (y : S1x320x1024.Idx) :
    ((((cfgA (F := Ideal) c).win 4).blk t).view.read (Elt Ideal) G y : EReal) = G (ix3 (ex t) (y 1) (y 2)) := by
  show G _ = _
  exact congrArg G (out_block c t y)

theorem flushed_o (c : Dev nD) (t : Fin grid0.N) (h : t.val % 2 = 1) (y : S1x320x1024.Idx) :
    ((dats m 0 c).flushed (4 : Fin 5) t y : EReal) = res m c (ix3 (ex t) (y 1) (y 2)) := by
  show (oblk m c t _ : EReal) = _
  have hy : ∀ z : S1x320x1024.Idx, (oblk m c t z : EReal) = res m c (ix3 (ex t) (z 1) (z 2)) := fun z => by
    obtain ⟨r, d, rfl⟩ : ∃ (r : Fin 320) (d : Fin 1024), z = ix3 0 r d := by
      refine ⟨z 1, z 2, funext fun a => ?_⟩
      match a with
      | ⟨0, _⟩ => exact Fin.ext (Nat.lt_one_iff.mp (z 0).isLt)
      | ⟨1, _⟩ => rfl
      | ⟨2, _⟩ => rfl
    unfold oblk
    rw [if_neg (by omega)]
    exact part2_apply m c t h _ _
  exact hy y

/-- Every entry of the result is in the block that goes out at its expert's second point. -/
theorem out_cover (c : Dev nD) (i : S8x320x1024.Idx) :
    ∃ t : Fin grid0.N, ((cfgA (F := Ideal) c).win 4).flush t = true ∧ i ∈ (((cfgA (F := Ideal) c).win 4).blk t).view.set := by
  have hi : (i 0).val < 8 := (i 0).isLt
  refine ⟨⟨2 * (i 0).val + 1, by rw [N_0]; omega⟩, ?_, ?_⟩
  · rw [flush_o]; exact decide_eq_true (show (2 * (i 0).val + 1) % 2 = 1 by omega)
  · refine Finset.mem_map.mpr ⟨ix3 0 (i 1) (i 2), Finset.mem_univ _, (out_block c _ _).trans ?_⟩
    funext a
    match a with
    | ⟨0, _⟩ => exact Fin.ext (show (2 * (i 0).val + 1) / 2 = (i 0).val by omega)
    | ⟨1, _⟩ => rfl
    | ⟨2, _⟩ => rfl

/-- Every device ends with its experts' results. -/
theorem final_o (c : Dev nD) : final m c 4 = res m c :=
  (dats m 0 c).arrAt_eq_of_cover (4 : Fin 5) (res m c)
    (fun t ht => funext fun y => (flushed_o m c t (by rw [flush_o] at ht; exact of_decide_eq_true ht) y).trans (out_block_read c t (res m c) y).symm)
    (out_cover c)

end exact

/-! ### The reference -/

section reference

variable (X : FVec Ideal Cert.ExpertRefIdeal.S2048x1024 .bf16) (Q : FVec Ideal Cert.ExpertRefIdeal.S16x320x2048 .bf16)
  (W1 : FVec Ideal Cert.ExpertRefIdeal.S16x1024x4096 .f32) (W2 : FVec Ideal Cert.ExpertRefIdeal.S16x4096x1024 .f32)

/-- The reference's result. -/
abbrev whole : FVec Ideal Cert.ExpertRefIdeal.S32x320x1024 .f32 :=
  shapeCast _ (Host.dotGeneral Cert.ExpertRefIdeal.dot_S2x2x8x320x2048_S2x8x2x2048x1024_S2x2x8x320x1024_4_3_3_4_012_021 none (maximumf (transpose Cert.ExpertRefIdeal.S2x2x8x320x2048 [0, 2, 1, 4, 3] (Host.dotGeneral Cert.ExpertRefIdeal.dot_S2x8x1024x2x2048_S2x8x320x1024_S2x8x2x2048x320_2_3_34_2_01_01 none (shapeCast _ W1 Cert.ExpertRefIdeal.Gen.shapeCasts_S16x1024x4096_S2x8x1024x2x2048) (shapeCast _ (Host.dotGeneral Cert.ExpertRefIdeal.dot_S16x320x2048_S2048x1024_S16x320x1024_2_0_01_1_n_n none (extf .f32 Q Cert.ExpertRefIdeal.Gen.bitsLt_bf16_f32) (extf .f32 X Cert.ExpertRefIdeal.Gen.bitsLt_bf16_f32)) Cert.ExpertRefIdeal.Gen.shapeCasts_S16x320x1024_S2x8x320x1024)) Cert.ExpertRefIdeal.Gen.transposes_S2x8x2x2048x320_S2x2x8x320x2048_0_2_1_4_3) (broadcastInDim Cert.ExpertRefIdeal.S2x2x8x320x2048 ![] Cert.ExpertRefIdeal.Gen.bcast_S_S2x2x8x320x2048 (constant Cert.ExpertRefIdeal.S_ .f32 0x00000000#32))) (shapeCast _ W2 Cert.ExpertRefIdeal.Gen.shapeCasts_S16x4096x1024_S2x8x2x2048x1024)) Cert.ExpertRefIdeal.Gen.shapeCasts_S2x2x8x320x1024_S32x320x1024

/-- The expert and the half of the hidden columns of a block of the result. -/
def expertOf (j : Fin 32) : Fin 16 := ⟨j.val / 16 * 8 + j.val % 8, by have := j.isLt; omega⟩
def halfOf (j : Fin 32) : Fin 2 := ⟨j.val / 8 % 2, by omega⟩

theorem whole_apply (j : Fin 32) (r : Fin 320) (d : Fin 1024) : (whole X Q W1 W2 (ix3 j r d) : EReal)
    = ∑ f : Fin 2048, max (∑ k : Fin 1024, (W1 (ix3 (expertOf j) k (hidden (halfOf j) f)) : EReal) * ∑ t : Fin 2048, (Q (ix3 (expertOf j) r t) : EReal) * (X (ix2 t k) : EReal)) 0
        * (W2 (ix3 (expertOf j) (hidden (halfOf j) f) d) : EReal) := by
  pointwise
  rfl

end reference

/-! ### The claim -/

section agree

variable (m : (ℓ : Loc nD τ sig) → Buf (Elt Ideal) ℓ)
variable (X : Cert.ExpertRefIdeal.S2048x1024.Idx → EReal) (Q : Cert.ExpertRefIdeal.S16x320x2048.Idx → EReal)
  (W1 : Cert.ExpertRefIdeal.S16x1024x4096.Idx → EReal) (W2 : Cert.ExpertRefIdeal.S16x4096x1024.Idx → EReal)

theorem lin_y (c : Dev nD) : Layout.meshLin [2, 2] c.val [1] = c.val % 2 := by revert c; decide
theorem lin_yx (c : Dev nD) : Layout.meshLin [2, 2] c.val [1, 0] = 2 * (c.val % 2) + c.val / 2 := by revert c; decide

/-- A device's expert among all. -/
def eg (c : Dev nD) (e : Fin 8) : Fin 16 := ⟨c.val % 2 * 8 + e.val, by omega⟩

/-- An entry of a device's block of an array of experts. -/
theorem block_apply {a b : Nat} (V : (⟨3, ![16, a, b]⟩ : Shape).Idx → EReal) (c : Dev nD)
    (h : Layout.TilesN ⟨3, ![8, a, b]⟩ ⟨3, ![16, a, b]⟩ fun x => Layout.cutSize [2, 2] ((![[1], [], []] : Fin 3 → List Nat) x)) (e : Fin 8) (i : Fin a) (j : Fin b) :
    (Layout.blockN ⟨3, ![8, a, b]⟩ ⟨3, ![16, a, b]⟩ (Layout.meshBlock [2, 2] ![[1], [], []] c) V h) (ix3 e i j) = V (ix3 (eg c e) i j) := by
  rw [Layout.blockN_apply]
  congr 1
  funext x
  apply Fin.ext
  rw [Layout.TilesN.idx_val]
  match x with
  | ⟨0, _⟩ =>
    show Layout.meshLin [2, 2] c.val [1] * 8 + e.val = c.val % 2 * 8 + e.val
    rw [lin_y]
  | ⟨1, _⟩ => show 0 * a + i.val = i.val; omega
  | ⟨2, _⟩ => show 0 * b + j.val = j.val; omega

variable (hX : ∀ c, xA m c = X)
variable (hQ : ∀ c, qA m c = Layout.blockN ⟨3, ![8, 320, 2048]⟩ ⟨3, ![16, 320, 2048]⟩ (Layout.meshBlock [2, 2] ![[1], [], []] c) Q)
variable (hW1 : ∀ c, w1A m c = Layout.blockN ⟨3, ![8, 1024, 4096]⟩ ⟨3, ![16, 1024, 4096]⟩ (Layout.meshBlock [2, 2] ![[1], [], []] c) W1)
variable (hW2 : ∀ c, w2A m c = Layout.blockN ⟨3, ![8, 4096, 1024]⟩ ⟨3, ![16, 4096, 1024]⟩ (Layout.meshBlock [2, 2] ![[1], [], []] c) W2)

/-- The block of the result a device's expert is. -/
def place (c : Dev nD) (e : Fin 8) : Fin 32 := ⟨(2 * (c.val % 2) + c.val / 2) * 8 + e.val, by have hc : c.val < 4 := c.isLt; omega⟩

theorem expertOf_place (c : Dev nD) (e : Fin 8) : expertOf (place c e) = eg c e := by
  apply Fin.ext
  have hc : c.val < 4 := c.isLt
  show ((2 * (c.val % 2) + c.val / 2) * 8 + e.val) / 16 * 8 + ((2 * (c.val % 2) + c.val / 2) * 8 + e.val) % 8 = c.val % 2 * 8 + e.val
  omega
theorem halfOf_place (c : Dev nD) (e : Fin 8) : halfOf (place c e) = xi c := by
  apply Fin.ext
  have hc : c.val < 4 := c.isLt
  show ((2 * (c.val % 2) + c.val / 2) * 8 + e.val) / 8 % 2 = c.val / 2
  omega

include hX hQ hW1 hW2 in
/-- A device's result is its block of the reference's. -/
theorem res_apply (c : Dev nD) (e : Fin 8) (r : Fin 320) (d : Fin 1024) : res m c (ix3 e r d) = whole X Q W1 W2 (ix3 (place c e) r d) := by
  rw [whole_apply, expertOf_place, halfOf_place]
  refine Finset.sum_congr rfl fun f _ => ?_
  show max (∑ k : Fin 1024, picked m c e r k * w1A m c (ix3 e k (hidden (xi c) f))) 0 * w2A m c (ix3 e (hidden (xi c) f) d) = _
  rw [hW1, hW2, block_apply]
  refine congrArg (fun a : EReal => max a 0 * _) (Finset.sum_congr rfl fun k _ => ?_)
  rw [block_apply, mul_comm]
  refine congrArg _ (Finset.sum_congr rfl fun t _ => ?_)
  rw [hX, hQ, block_apply]

end agree

/-- In exact arithmetic the call and the plain lines agree: every device ends with its block of the experts' results. -/
theorem algebraic : Cert.algebraic_ExpertIdeal_ExpertRefIdeal := by
  intro m g m' g' _ hagree
  refine ⟨_, ?_, (θ_run _ _ _).mono (fun _ h => h 0) (Cert.ExpertRefIdeal.Value.run m' g')⟩
  refine (θ_run _ _ _).mono (fun r h c => ⟨?_, (h.1 c).1, (h.1 c).2.1, (h.1 c).2.2.1, (h.1 c).2.2.2.1⟩) (run_args m g)
  refine (((h.1 c).2.2.2.2).trans (final_o m c)).trans ?_
  funext i
  obtain ⟨e, s, d, rfl⟩ : ∃ (e : Fin 8) (s : Fin 320) (d : Fin 1024), i = ix3 e s d := by
    refine ⟨i 0, i 1, i 2, funext fun a => ?_⟩
    match a with
    | ⟨0, _⟩ => rfl
    | ⟨1, _⟩ => rfl
    | ⟨2, _⟩ => rfl
  refine (res_apply m _ _ _ _ (fun c => (hagree c).1) (fun c => (hagree c).2.1) (fun c => (hagree c).2.2.1) (fun c => (hagree c).2.2.2) c e s d).trans ?_
  rw [Layout.blockN_apply]
  refine congrArg (whole _ _ _ _) (funext fun a => Fin.ext ?_)
  rw [Layout.TilesN.idx_val]
  match a with
  | ⟨0, _⟩ =>
    show (2 * (c.val % 2) + c.val / 2) * 8 + e.val = Layout.meshLin [2, 2] c.val [1, 0] * 8 + e.val
    rw [lin_yx]
  | ⟨1, _⟩ => show s.val = 0 * 320 + s.val; omega
  | ⟨2, _⟩ => show d.val = 0 * 1024 + d.val; omega

end Cert.ExpertIdeal.Ffn

end
-- ==== Proof.lean ====
/-
The combining and the gathering call of v07: every claim of the certificate.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRefIdeal
public import proofs.«01_k».proof.Proof.Gen.GatherRefIdeal.Run
public import proofs.«01_k».proof.Proof.Gen.Expert
public import proofs.«01_k».proof.Proof.Gen.Expert.Skeleton
public import proofs.«01_k».proof.Proof.Gen.Expert.Launch
public import proofs.«01_k».proof.Proof.Gen.Expert.Regions
public import proofs.«01_k».proof.Proof.Gen.ExpertIdeal
public import proofs.«01_k».proof.Proof.Gen.ExpertIdeal.Skeleton
public import proofs.«01_k».proof.Proof.Gen.ExpertIdeal.Launch
public import proofs.«01_k».proof.Proof.Gen.ExpertIdeal.Regions
public import proofs.«01_k».proof.Proof.Gen.ExpertRefIdeal
public import proofs.«01_k».proof.Proof.Gen.ExpertRefIdeal.Run
public import proofs.«01_k».proof.Proof.KernelFrame
public import proofs.«01_k».proof.Proof.KernelIdealFrame
public import proofs.«01_k».proof.Proof.KernelIdealValue
public import proofs.«01_k».proof.Proof.GatherFrame
public import proofs.«01_k».proof.Proof.GatherIdealFrame
public import proofs.«01_k».proof.Proof.GatherIdealValue
public import proofs.«01_k».proof.Proof.ExpertFrame
public import proofs.«01_k».proof.Proof.ExpertIdealFrame
public import proofs.«01_k».proof.Proof.ExpertIdealValue
public import Idealize.ShloMosaic.Lib.Quiescent
public import Idealize.ShloMosaic.Adequacy
public import Idealize.ShloMosaic.Init

@[expose] public section

noncomputable section

namespace Cert.Proof

open Idealize.ShloMosaic Idealize.SL.Sem

/-- The three calls as printed run, leave their arguments and end with every semaphore at zero. -/
theorem quiescent_kernel : Cert.quiescent_Kernel := fun m ρ _ => Cert.Kernel.Combine.run_frame m ρ
theorem quiescent_gather : Cert.quiescent_Gather := fun m ρ _ => Cert.Gather.Exchange.run_frame m ρ
theorem quiescent_expert : Cert.quiescent_Expert := fun m ρ _ => Cert.Expert.Ffn.run_frame m ρ

/-- So do their readings in exact arithmetic. -/
theorem quiescent_kernelIdeal : Cert.quiescent_KernelIdeal := fun m ρ _ => Cert.KernelIdeal.Combine.run_frame m ρ
theorem quiescent_gatherIdeal : Cert.quiescent_GatherIdeal := fun m ρ _ => Cert.GatherIdeal.Exchange.run_frame m ρ
theorem quiescent_expertIdeal : Cert.quiescent_ExpertIdeal := fun m ρ _ => Cert.ExpertIdeal.Ffn.run_frame m ρ

/-- So do the references, which have no semaphore. -/
theorem quiescent_referenceIdeal : Cert.quiescent_ReferenceIdeal := fun m ρ _ =>
  (θ_run _ _ _).mono (fun r h => ⟨fun c => (h c).2, sem_eq_zero_of_no_sems rfl r.2⟩) (Cert.ReferenceIdeal.Value.run m ρ)
theorem quiescent_gatherRefIdeal : Cert.quiescent_GatherRefIdeal := fun m ρ _ =>
  (θ_run _ _ _).mono (fun r h => ⟨fun c => (h c).2.2, sem_eq_zero_of_no_sems rfl r.2⟩) (Cert.GatherRefIdeal.Value.run m ρ)

theorem quiescent_expertRefIdeal : Cert.quiescent_ExpertRefIdeal := fun m ρ _ =>
  (θ_run _ _ _).mono (fun r h => ⟨fun c => (h c).2, sem_eq_zero_of_no_sems rfl r.2⟩) (Cert.ExpertRefIdeal.Value.run m ρ)

theorem claim : Cert.Claim := ⟨Cert.Kernel.Gen.facts, Cert.KernelIdeal.Gen.facts, Cert.ReferenceIdeal.Gen.facts,
  Cert.Gather.Gen.facts, Cert.GatherIdeal.Gen.facts, Cert.GatherRefIdeal.Gen.facts,
  Cert.Expert.Gen.facts, Cert.ExpertIdeal.Gen.facts, Cert.ExpertRefIdeal.Gen.facts,
  quiescent_kernel, quiescent_kernelIdeal, quiescent_referenceIdeal, quiescent_gather, quiescent_gatherIdeal, quiescent_gatherRefIdeal,
  quiescent_expert, quiescent_expertIdeal, quiescent_expertRefIdeal,
  trivial, Cert.KernelIdeal.Combine.algebraic, trivial, Cert.GatherIdeal.Exchange.algebraic, trivial, Cert.ExpertIdeal.Ffn.algebraic⟩

end Cert.Proof

end
